-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S1x10000x128 : Shape := ⟨3, ![1, 10000, 128]⟩
abbrev S1x10000x10000 : Shape := ⟨3, ![1, 10000, 10000]⟩
abbrev S1x10000 : Shape := ⟨2, ![1, 10000]⟩
abbrev S128x128 : Shape := ⟨2, ![128, 128]⟩
abbrev S128 : Shape := ⟨1, ![128]⟩
abbrev S_ : Shape := ⟨0, ![]⟩

class Facts : Prop where
  bcast_S_S1x10000x128 : S_.BroadcastsInDim S1x10000x128 (![] : Fin 0 → Fin S1x10000x128.rank)
  reducesTo_S1x10000x128_S_d0_1_2 : S1x10000x128.ReducesTo [0, 1, 2] S_
  h_S_ : 0 < S_.numel
  bcast_S_S1x10000x10000 : S_.BroadcastsInDim S1x10000x10000 (![] : Fin 0 → Fin S1x10000x10000.rank)
  reducesTo_S1x10000x10000_S_d0_1_2 : S1x10000x10000.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg6 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  main_v23

def fn {F : FTy → Type} [FloatOps F] (main_arg0 : FVec F S1x10000x128 .f32) (main_arg1 : FVec F S1x10000x128 .f32) (main_arg2 : FVec F S1x10000x10000 .f32) (main_arg3 : FVec F S1x10000 .f32) (main_arg4 : FVec F S1x10000 .f32) (main_arg5 : FVec F S128x128 .f32) (main_arg6 : FVec F S128 .f32) (main_arg7 : FVec F S128x128 .f32) (main_arg8 : FVec F S_ .f32) : IVec S_ 1 :=
  let main_v0 : FVec F S1x10000x128 .f32 := Host.absf main_arg0
  let main_cst : FVec F S_ .f32 := constant S_ .f32 0x7F800000#32
  let main_v1 : FVec F S1x10000x128 .f32 := broadcastInDim S1x10000x128 ![] bcast_S_S1x10000x128 main_cst
  let main_v2 : IVec S1x10000x128 1 := cmpf .olt main_v0 main_v1
  let main_c : IVec S_ 1 := constantI S_ 1 1#1
  let main_v3 : IVec S_ 1 := (fun x v => Host.reduce IntOp.andi x v reducesTo_S1x10000x128_S_d0_1_2 h_S_) main_v2 main_c
  let main_v4 : FVec F S1x10000x128 .f32 := Host.absf main_arg1
  let main_cst_0 : FVec F S_ .f32 := constant S_ .f32 0x7F800000#32
  let main_v5 : FVec F S1x10000x128 .f32 := broadcastInDim S1x10000x128 ![] bcast_S_S1x10000x128 main_cst_0
  let main_v6 : IVec S1x10000x128 1 := cmpf .olt main_v4 main_v5
  let main_c_1 : IVec S_ 1 := constantI S_ 1 1#1
  let main_v7 : IVec S_ 1 := (fun x v => Host.reduce IntOp.andi x v reducesTo_S1x10000x128_S_d0_1_2 h_S_) main_v6 main_c_1
  let main_v8 : IVec S_ 1 := andi main_v3 main_v7
  let main_v9 : FVec F S1x10000x10000 .f32 := Host.absf main_arg2
  let main_cst_2 : FVec F S_ .f32 := constant S_ .f32 0x7F800000#32
  let main_v10 : FVec F S1x10000x10000 .f32 := broadcastInDim S1x10000x10000 ![] bcast_S_S1x10000x10000 main_cst_2
  let main_v11 : IVec S1x10000x10000 1 := cmpf .olt main_v9 main_v10
  let main_c_3 : IVec S_ 1 := constantI S_ 1 1#1
  let main_v12 : IVec S_ 1 := (fun x v => Host.reduce IntOp.andi x v reducesTo_S1x10000x10000_S_d0_1_2 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_v13 main_v16
-- ==== Kernel.lean ====
abbrev S1x10000x128 : Shape := ⟨3, ![1, 10000, 128]⟩
abbrev S1x10000x10000 : Shape := ⟨3, ![1, 10000, 10000]⟩
abbrev S1x10000 : Shape := ⟨2, ![1, 10000]⟩
abbrev S128x128 : Shape := ⟨2, ![128, 128]⟩
abbrev S128 : Shape := ⟨1, ![128]⟩
abbrev S_ : Shape := ⟨0, ![]⟩
abbrev S10000x128 : Shape := ⟨2, ![10000, 128]⟩
abbrev S10000x10000 : Shape := ⟨2, ![10000, 10000]⟩
abbrev S256 : Shape := ⟨1, ![256]⟩
abbrev S1x256 : Shape := ⟨2, ![1, 256]⟩
abbrev S1x1 : Shape := ⟨2, ![1, 1]⟩
abbrev S400x10000 : Shape := ⟨2, ![400, 10000]⟩
abbrev S10000x256 : Shape := ⟨2, ![10000, 256]⟩
abbrev S1x128 : Shape := ⟨2, ![1, 128]⟩
abbrev S400x256 : Shape := ⟨2, ![400, 256]⟩
abbrev S400x128 : Shape := ⟨2, ![400, 128]⟩
abbrev S1x20000 : Shape := ⟨2, ![1, 20000]⟩

abbrev nBuf : Space → Nat
  | .hbm => 18
  | .vmem => 15
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S1x10000x10000, .f32⟩
  | .hbm, ⟨3, _⟩ => ⟨S1x10000, .f32⟩
  | .hbm, ⟨4, _⟩ => ⟨S1x10000, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S_, .f32⟩
  | .hbm, ⟨9, _⟩ => ⟨S10000x128, .f32⟩
  | .hbm, ⟨10, _⟩ => ⟨S10000x128, .f32⟩
  | .hbm, ⟨11, _⟩ => ⟨S10000x10000, .f32⟩
  | .hbm, ⟨12, _⟩ => ⟨S256, .f32⟩
  | .hbm, ⟨13, _⟩ => ⟨S1x256, .f32⟩
  | .hbm, ⟨14, _⟩ => ⟨S1x1, .f32⟩
  | .hbm, ⟨15, _⟩ => ⟨S1x10000, .f32⟩
  | .hbm, ⟨16, _⟩ => ⟨S1x10000, .f32⟩
  | .hbm, ⟨17, _⟩ => ⟨S1x20000, .f32⟩
  | .local _ .vmem, ⟨0, _⟩ => ⟨S10000x128, .f32⟩
  | .local _ .vmem, ⟨1, _⟩ => ⟨S10000x128, .f32⟩
  | .local _ .vmem, ⟨2, _⟩ => ⟨S400x10000, .f32⟩
  | .local _ .vmem, ⟨3, _⟩ => ⟨S400x10000, .f32⟩
  | .local _ .vmem, ⟨4, _⟩ => ⟨S128x128, .f32⟩
  | .local _ .vmem, ⟨5, _⟩ => ⟨S1x256, .f32⟩
  | .local _ .vmem, ⟨6, _⟩ => ⟨S1x10000, .f32⟩
  | .local _ .vmem, ⟨7, _⟩ => ⟨S1x10000, .f32⟩
  | .local _ .vmem, ⟨8, _⟩ => ⟨S128x128, .f32⟩
  | .local _ .vmem, ⟨9, _⟩ => ⟨S1x1, .f32⟩
  | .local _ .vmem, ⟨10, _⟩ => ⟨S1x10000, .f32⟩
  | .local _ .vmem, ⟨11, _⟩ => ⟨S1x10000, .f32⟩
  | .local _ .vmem, ⟨12, _⟩ => ⟨S10000x256, .f32⟩
  | .local _ .vmem, ⟨13, _⟩ => ⟨S10000x256, .bf16⟩
  | .local _ .vmem, ⟨14, _⟩ => ⟨S1x128, .f32⟩
  | _, _ => ⟨S1x10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11

abbrev nD : Nat := 1
abbrev τ : Topo := Topo.v7x

variable {F : FTy → Type} [FloatOps F]

abbrev grid0 : Pipeline.Grid := ⟨1, ![25], ![false]⟩

def k0_off1 (i : grid0.Coords) : Fin 2 → Nat :=
  let arg0 : BitVec 32 := BitVec.ofNat 32 (i 0).val
  let c400_i32 : BitVec 32 := 400#32
  let v14 : BitVec 32 := Scalar.muli arg0 c400_i32
  let v15 : Index := Scalar.indexCast v14
  let c0_7 : Index := 0#32
  ![v15.toNat, 0]
def k0_cond2 (i : grid0.Coords) : BitVec 1 :=
  let arg0 : BitVec 32 := BitVec.ofNat 32 (i 0).val
  let c24_i32 : BitVec 32 := 24#32
  let v27 : BitVec 1 := Scalar.cmpi .eq arg0 c24_i32
  let v28 : BitVec 32 := Scalar.extui v27
  let c0_i32_13 : BitVec 32 := 0#32
  let v29 : BitVec 1 := Scalar.cmpi .ne v28 c0_i32_13
  v29

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S10000x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S400x10000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x10000 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10000 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x10000 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x10000 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceIdeal.lean ====
abbrev S1x10000x128 : Shape := ⟨3, ![1, 10000, 128]⟩
abbrev S1x10000x10000 : Shape := ⟨3, ![1, 10000, 10000]⟩
abbrev S1x10000 : Shape := ⟨2, ![1, 10000]⟩
abbrev S128x128 : Shape := ⟨2, ![128, 128]⟩
abbrev S128 : Shape := ⟨1, ![128]⟩
abbrev S_ : Shape := ⟨0, ![]⟩
abbrev S10000x10000 : Shape := ⟨2, ![10000, 10000]⟩
abbrev S10000x128 : Shape := ⟨2, ![10000, 128]⟩
abbrev S1x1x128 : Shape := ⟨3, ![1, 1, 128]⟩
abbrev S1x128 : Shape := ⟨2, ![1, 128]⟩
abbrev S128x1x10000 : Shape := ⟨3, ![128, 1, 10000]⟩
abbrev S1x20000 : Shape := ⟨2, ![1, 20000]⟩

abbrev nBuf : Space → Nat
  | .hbm => 57
  | .vmem => 0
  | .smem => 0
  | _ => 0

abbrev bufTy : (tb : Table) → Fin (tcTables nBuf tb) → BufTy
  | .hbm, ⟨0, _⟩ => ⟨S1x10000x128, .f32⟩
  | .hbm, ⟨1, _⟩ => ⟨S1x10000x128, .f32⟩
  | .hbm, ⟨2, _⟩ => ⟨S1x10000x10000, .f32⟩
  | .hbm, ⟨3, _⟩ => ⟨S1x10000, .f32⟩
  | .hbm, ⟨4, _⟩ => ⟨S1x10000, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S_, .f32⟩
  | .hbm, ⟨9, _⟩ => ⟨S1x10000x128, .f32⟩
  | .hbm, ⟨10, _⟩ => ⟨S10000x10000, .f32⟩
  | .hbm, ⟨11, _⟩ => ⟨S10000x128, .f32⟩
  | .hbm, ⟨12, _⟩ => ⟨S10000x128, .f32⟩
  | .hbm, ⟨13, _⟩ => ⟨S1x10000x128, .f32⟩
  | .hbm, ⟨14, _⟩ => ⟨S1x1x128, .f32⟩
  | .hbm, ⟨15, _⟩ => ⟨S1x10000x128, .f32⟩
  | .hbm, ⟨16, _⟩ => ⟨S1x10000x128, .f32⟩
  | .hbm, ⟨17, _⟩ => ⟨S_, .f32⟩
  | .hbm, ⟨18, _⟩ => ⟨S1x10000x128, .f32⟩
  | .hbm, ⟨19, _⟩ => ⟨S1x10000x128, .f32⟩
  | .hbm, ⟨20, _⟩ => ⟨S_, .f32⟩
  | .hbm, ⟨21, _⟩ => ⟨S1x128, .f32⟩
  | .hbm, ⟨22, _⟩ => ⟨S_, .f32⟩
  | .hbm, ⟨23, _⟩ => ⟨S1x128, .f32⟩
  | .hbm, ⟨24, _⟩ => ⟨S1x128, .f32⟩
  | .hbm, ⟨25, _⟩ => ⟨S1x128, .f32⟩
  | .hbm, ⟨26, _⟩ => ⟨S1x128, .f32⟩
  | .hbm, ⟨27, _⟩ => ⟨S_, .f32⟩
  | .hbm, ⟨28, _⟩ => ⟨S1x128, .f32⟩
  | .hbm, ⟨29, _⟩ => ⟨S1x128, .f32⟩
  | .hbm, ⟨30, _⟩ => ⟨S_, .f32⟩
  | .hbm, ⟨31, _⟩ => ⟨S1x128, .f32⟩
  | .hbm, ⟨32, _⟩ => ⟨S1x128, .f32⟩
  | .hbm, ⟨33, _⟩ => ⟨S1x10000x128, .f32⟩
  | .hbm, ⟨34, _⟩ => ⟨S10000x10000, .f32⟩
  | .hbm, ⟨35, _⟩ => ⟨S10000x128, .f32⟩
  | .hbm, ⟨36, _⟩ => ⟨S10000x128, .f32⟩
  | .hbm, ⟨37, _⟩ => ⟨S1x10000x128, .f32⟩
  | .hbm, ⟨38, _⟩ => ⟨S1x1x128, .f32⟩
  | .hbm, ⟨39, _⟩ => ⟨S1x10000x128, .f32⟩
  | .hbm, ⟨40, _⟩ => ⟨S1x10000x128, .f32⟩
  | .hbm, ⟨41, _⟩ => ⟨S_, .f32⟩
  | .hbm, ⟨42, _⟩ => ⟨S1x10000x128, .f32⟩
  | .hbm, ⟨43, _⟩ => ⟨S1x10000x128, .f32⟩
  | .hbm, ⟨44, _⟩ => ⟨S1x1x128, .f32⟩
  | .hbm, ⟨45, _⟩ => ⟨S1x10000x128, .f32⟩
  | .hbm, ⟨46, _⟩ => ⟨S128x1x10000, .f32⟩
  | .hbm, ⟨47, _⟩ => ⟨S1x10000, .f32⟩
  | .hbm, ⟨48, _⟩ => ⟨S1x10000, .f32⟩
  | .hbm, ⟨49, _⟩ => ⟨S1x10000, .f32⟩
  | .hbm, ⟨50, _⟩ => ⟨S128x1x10000, .f32⟩
  | .hbm, ⟨51, _⟩ => ⟨S1x10000, .f32⟩
  | .hbm, ⟨52, _⟩ => ⟨S1x10000, .f32⟩
  | .hbm, ⟨53, _⟩ => ⟨S1x10000, .f32⟩
  | .hbm, ⟨54, _⟩ => ⟨S1x10000, .f32⟩
  | .hbm, ⟨55, _⟩ => ⟨S1x10000, .f32⟩
  | .hbm, ⟨56, _⟩ => ⟨S1x20000, .f32⟩
  | _, _ => ⟨S1x10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_call0_cst : Ref sig .tc := ⟨.hbm, 17, rfl⟩
abbrev main_call0_v0 : Ref sig .tc := ⟨.hbm, 18, rfl⟩
abbrev main_v8 : Ref sig .tc := ⟨.hbm, 19, rfl⟩
abbrev main_cst : Ref sig .tc := ⟨.hbm, 20, rfl⟩
abbrev main_v9 : Ref sig .tc := ⟨.hbm, 21, rfl⟩
abbrev main_cst_0 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_1 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_call1_cst : Ref sig .tc := ⟨.hbm, 41, rfl⟩
abbrev main_call1_v0 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩

abbrev nD : Nat := 1
abbrev τ : Topo := Topo.v7x

variable {F : FTy → Type} [FloatOps F]
-- ==== Proof.Setup.lean ====
/- The set-up of the layer kernel at one grid point: its two conditions, its staging memrefs and its scratch. -/
module

public import proofs.«01_k».proof.Proof.Gen.KernelIdeal.Frame
public import proofs.«01_k».proof.Proof.Gen.KernelIdeal.Skeleton
public import Idealize.ShloMosaic.Lib.ValueIdx
public import Idealize.ShloMosaic.Lib.ValueIdxCoords
public import Idealize.ShloMosaic.Lib.ValueLayout
public import Idealize.ShloMosaic.Lib.MatmulPlain
public import Idealize.ShloMosaic.Lib.WritesUnit
public import Idealize.ShloMosaic.Lib.Pipeline.Value

@[expose] public section

set_option maxRecDepth 16384

noncomputable section

namespace Cert.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The two conditions of the body -/

/-- The condition under which the body fills the features and clears the running sum. -/
abbrev AtFirst (i : grid0.Coords) : Prop := (Scalar.cmpi .ne (Scalar.extui (Scalar.cmpi .eq (BitVec.ofNat 32 (i 0).val) 0#32)) 0#32) = 1#1

/-- The condition under which the body writes the two rows of scores. -/
abbrev AtLast (i : grid0.Coords) : Prop := k0_cond2 i = 1#1

/-- The grid coordinate of a point is the point's position. -/
theorem coord_val (t : Fin cfg0.N) : (grid0.coords t 0).val = t.val := by
  have ht : t.val < 25 := Nat.lt_of_lt_of_eq t.isLt N_0
  have e0 : (grid0.coords t 0).val = t.val / 1 % 25 := Pipeline.Grid.coords_val t 0 (by decide) rfl
  rw [e0]; omega

/-- The first condition holds at position 0 only. -/
theorem atFirst_iff (t : Fin cfg0.N) : AtFirst (grid0.coords t) ↔ t.val = 0 := by
  have ht : t.val < 25 := Nat.lt_of_lt_of_eq t.isLt N_0
  have e0 := coord_val t
  simp only [AtFirst, e0]
  word_cmp

/-- The second condition holds at position 24 only. -/
theorem atLast_iff (t : Fin cfg0.N) : AtLast (grid0.coords t) ↔ t.val = 24 := by
  have ht : t.val < 25 := Nat.lt_of_lt_of_eq t.isLt N_0
  have e0 := coord_val t
  simp only [AtLast, k0_cond2, e0]
  word_cmp

/-- The rows a point stores into the hidden features start at 400 times its position. -/
theorem off_row (t : Fin cfg0.N) : k0_off1 (grid0.coords t) 0 = 400 * t.val := by
  have ht : t.val < 25 := Nat.lt_of_lt_of_eq t.isLt N_0
  have e0 := coord_val t
  simp only [k0_off1, e0]
  show (BitVec.ofNat 32 t.val * 400#32).toNat = 400 * t.val
  rw [BitVec.toNat_mul, BitVec.toNat_ofNat, BitVec.toNat_ofNat]
  omega

/-! ## The staging memrefs and the scratch -/

abbrev win0 (t : Fin cfg0.N) : Memref sig .tc .vmem S10000x128 .f32 := win0_0.stage (cfg0.slots t 0)
abbrev win0_whole (t : Fin cfg0.N) : (win0 t).IsWhole := hstage0_0 ((cfg0.slots t 0).cast nbuf0_0)
abbrev win1 (t : Fin cfg0.N) : Memref sig .tc .vmem S10000x128 .f32 := win0_1.stage (cfg0.slots t 1)
abbrev win1_whole (t : Fin cfg0.N) : (win1 t).IsWhole := hstage0_1 ((cfg0.slots t 1).cast nbuf0_1)
abbrev win2 (t : Fin cfg0.N) : Memref sig .tc .vmem S400x10000 .f32 := win0_2.stage (cfg0.slots t 2)
abbrev win2_whole (t : Fin cfg0.N) : (win2 t).IsWhole := hstage0_2 ((cfg0.slots t 2).cast nbuf0_2)
abbrev win3 (t : Fin cfg0.N) : Memref sig .tc .vmem S128x128 .f32 := win0_3.stage (cfg0.slots t 3)
abbrev win3_whole (t : Fin cfg0.N) : (win3 t).IsWhole := hstage0_3 ((cfg0.slots t 3).cast nbuf0_3)
abbrev win4 (t : Fin cfg0.N) : Memref sig .tc .vmem S1x256 .f32 := win0_4.stage (cfg0.slots t 4)
abbrev win4_whole (t : Fin cfg0.N) : (win4 t).IsWhole := hstage0_4 ((cfg0.slots t 4).cast nbuf0_4)
abbrev win5 (t : Fin cfg0.N) : Memref sig .tc .vmem S1x10000 .f32 := win0_5.stage (cfg0.slots t 5)
abbrev win5_whole (t : Fin cfg0.N) : (win5 t).IsWhole := hstage0_5 ((cfg0.slots t 5).cast nbuf0_5)
abbrev win6 (t : Fin cfg0.N) : Memref sig .tc .vmem S1x10000 .f32 := win0_6.stage (cfg0.slots t 6)
abbrev win6_whole (t : Fin cfg0.N) : (win6 t).IsWhole := hstage0_6 ((cfg0.slots t 6).cast nbuf0_6)
abbrev win7 (t : Fin cfg0.N) : Memref sig .tc .vmem S128x128 .f32 := win0_7.stage (cfg0.slots t 7)
abbrev win7_whole (t : Fin cfg0.N) : (win7 t).IsWhole := hstage0_7 ((cfg0.slots t 7).cast nbuf0_7)
abbrev win8 (t : Fin cfg0.N) : Memref sig .tc .vmem S1x1 .f32 := win0_8.stage (cfg0.slots t 8)
abbrev win8_whole (t : Fin cfg0.N) : (win8 t).IsWhole := hstage0_8 ((cfg0.slots t 8).cast nbuf0_8)
abbrev win9 (t : Fin cfg0.N) : Memref sig .tc .vmem S1x10000 .f32 := win0_9.stage (cfg0.slots t 9)
abbrev win9_whole (t : Fin cfg0.N) : (win9 t).IsWhole := hstage0_9 ((cfg0.slots t 9).cast nbuf0_9)
abbrev win10 (t : Fin cfg0.N) : Memref sig .tc .vmem S1x10000 .f32 := win0_10.stage (cfg0.slots t 10)
abbrev win10_whole (t : Fin cfg0.N) : (win10 t).IsWhole := hstage0_10 ((cfg0.slots t 10).cast nbuf0_10)
/-- The features of both inputs, side by side. -/
abbrev scrX : Memref sig .tc .vmem S10000x256 .f32 := Memref.whole cc0_scratch0
/-- The hidden features of both inputs, side by side. -/
abbrev scrH : Memref sig .tc .vmem S10000x256 .bf16 := Memref.whole cc0_scratch1
/-- The running sum of the first input's hidden features. -/
abbrev scrA : Memref sig .tc .vmem S1x128 .f32 := Memref.whole cc0_scratch2

/-- What the region hands the first point: each scratch at some contents and the generator register. -/
theorem start_eq (c : Dev nD) :
    (Pipeline.ΦA spec0 c : sProp 𝕄)
      = iprop(iprop((∃ d, owns (c : Thread nD τ) scrX fullShare d) ∗ (∃ d, owns (c : Thread nD τ) scrH fullShare d) ∗ (∃ d, owns (c : Thread nD τ) scrA fullShare d)) ∗ (∃ r, prngReg c r)) := by
  unfold Pipeline.ΦA; rw [scopedRest0_eq]; simp only [scrX, scrH, scrA, owns_whole]; try rfl

end Cert.Layer

end
-- ==== Proof.Body.lean ====
/- The layer kernel's body at one grid point: what each kind of point leaves in every buffer. -/
module

public import proofs.«01_k».proof.Proof.Setup
public import Idealize.ShloMosaic.Lib.VecWindow

@[expose] public section

set_option maxRecDepth 16384

noncomputable section

namespace Cert.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

/-- The first 128 columns of the hidden features. -/
def leftHalf (d : Vec F S10000x256 .bf16) : Vec F S10000x128 .bf16 :=
  View.ld d (Rect.unit (s := S10000x256) ![0, 0] S10000x128.size inb_S10000x256_S10000x128_0_0)
/-- The last 128 columns of the hidden features. -/
def rightHalf (d : Vec F S10000x256 .bf16) : Vec F S10000x128 .bf16 :=
  View.ld d (Rect.unit (s := S10000x256) ![0, 128] S10000x128.size inb_S10000x256_S10000x128_0_128)
/-- Two arrays of 128 columns side by side. -/
def sideBySide (a b : Vec F S10000x128 .f32) : Vec F S10000x256 .f32 := fun j =>
  if h : (j 1).val < 128 then a (ix2 (n0 := 10000) (n1 := 128) (j 0) ⟨(j 1).val, h⟩)
  else b (ix2 (n0 := 10000) (n1 := 128) (j 0) ⟨(j 1).val - 128, by have := idx2_lt1 j; omega⟩)

/-- `d'` is `d` with the 400 rows the point at `i` stores overwritten by `p`. -/
def Stored (i : grid0.Coords) (d d' : Vec F S10000x256 .bf16) (p : Vec F S400x256 .bf16) : Prop :=
  ∀ (r : Fin 10000) (q : Fin 256), d' (ix2 r q) = if h : k0_off1 i 0 ≤ r.val ∧ r.val < k0_off1 i 0 + 400
    then p (ix2 ⟨r.val - k0_off1 i 0, by omega⟩ q) else d (ix2 r q)

/-- A store of the point's 400 rows over `d` leaves `d` with those rows overwritten. -/
theorem stored_writes (i : grid0.Coords) (v : Memref sig .tc .vmem S10000x256 .bf16) (hv : v.IsWhole)
    (d : Vec F S10000x256 .bf16) (p : Vec F S400x256 .bf16)
    (inb : ∀ a, k0_off1 i a + S400x256.size a ≤ S10000x256.size a) :
    Stored i d (v.view.read (Elt F) (v.view.writes (Elt F) (hv.unread d) [⟨Rect.unit (k0_off1 i) S400x256.size inb, p⟩])) p := by
  intro r q
  have hoff : k0_off1 i = ![k0_off1 i 0, 0] := by
    funext a; fin_cases a <;> rfl
  rw [View.read_writes_cons_rows v.view (hv.unread d) inb p [] (ix2 r q) (o := k0_off1 i 0) (W := 400) hoff rfl rfl,
    View.writes_nil, hv.read_unread]
  refine dite_congr rfl (fun h => congrArg p (funext fun a => Fin.ext ?_)) fun _ => rfl
  fin_cases a <;> rfl

/-- Two stores of 128 columns each leave the two payloads side by side. -/
theorem read_halves (v : Memref sig .tc .vmem S10000x256 .f32) (f : v.view.ty.Contents (Elt F)) (a b : Vec F S10000x128 .f32)
    (ha : ∀ k, (![0, 0] : Fin 2 → ℕ) k + S10000x128.size k ≤ S10000x256.size k)
    (hb : ∀ k, (![0, 128] : Fin 2 → ℕ) k + S10000x128.size k ≤ S10000x256.size k) :
    v.view.read (Elt F) (v.view.writes (Elt F) f [⟨Rect.unit ![0, 128] S10000x128.size hb, b⟩, ⟨Rect.unit ![0, 0] S10000x128.size ha, a⟩])
      = sideBySide a b := by
  funext j
  have h0 := idx2_lt0 j
  have h1 := idx2_lt1 j
  unfold sideBySide
  by_cases h : (j 1).val < 128
  · rw [dif_pos h, View.read_writes_cons_unit_of_not_mem v.view f hb b _ j rfl (1 : Fin 2) (Or.inl h)]
    exact View.read_writes_cons_unit_of_mem v.view f ha a [] j _ rfl
      (Fin.forall_fin_two.mpr ⟨(Nat.zero_add _).symm, (Nat.zero_add _).symm⟩)
  · rw [dif_neg h]
    exact View.read_writes_cons_unit_of_mem v.view f hb b _ j _ rfl
      (Fin.forall_fin_two.mpr ⟨(Nat.zero_add _).symm, by show (j 1).val = 128 + ((j 1).val - 128); omega⟩)

/-- The whole buffer loaded back after the two half stores is the two payloads side by side. -/
theorem readCov_halves (v : Memref sig .tc .vmem S10000x256 .f32) (a b : Vec F S10000x128 .f32)
    (ha : ∀ k, (![0, 0] : Fin 2 → ℕ) k + S10000x128.size k ≤ S10000x256.size k)
    (hb : ∀ k, (![0, 128] : Fin 2 → ℕ) k + S10000x128.size k ≤ S10000x256.size k)
    (inb : ∀ k, (![0, 0] : Fin 2 → ℕ) k + S10000x256.size k ≤ S10000x256.size k) :
    v.view.readCov (Val := Elt F) [⟨Rect.unit ![0, 128] S10000x128.size hb, b⟩, ⟨Rect.unit ![0, 0] S10000x128.size ha, a⟩]
        (Rect.unit (s := S10000x256) ![0, 0] S10000x256.size inb).toLoadRect = sideBySide a b :=
  (View.readAt_full v.view _ inb).trans (read_halves (F := F) v _ a b ha hb)

set_option maxHeartbeats 4000000 in
/-- The body at a point that is neither first nor last. -/
theorem body_mid (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x256 .f32) (harg5 : arg5.IsWhole) (arg6 : Memref sig .tc .vmem S1x10000 .f32) (harg6 : arg6.IsWhole) (arg7 : Memref sig .tc .vmem S1x10000 .f32) (harg7 : arg7.IsWhole) (arg8 : Memref sig .tc .vmem S128x128 .f32) (harg8 : arg8.IsWhole) (arg9 : Memref sig .tc .vmem S1x1 .f32) (harg9 : arg9.IsWhole) (arg10 : Memref sig .tc .vmem S1x10000 .f32) (harg10 : arg10.IsWhole) (arg11 : Memref sig .tc .vmem S1x10000 .f32) (harg11 : arg11.IsWhole) (arg12 : Memref sig .tc .vmem S10000x256 .f32) (harg12 : arg12.IsWhole) (arg13 : Memref sig .tc .vmem S10000x256 .bf16) (harg13 : arg13.IsWhole) (arg14 : Memref sig .tc .vmem S1x128 .f32) (harg14 : arg14.IsWhole) (hc0 : ¬AtFirst i) (hc1 : ¬AtLast i)
    (x0 : Vec F S10000x128 .f32) (x1 : Vec F S10000x128 .f32) (x2 : Vec F S400x10000 .f32) (x3 : Vec F S128x128 .f32) (x4 : Vec F S1x256 .f32) (x5 : Vec F S1x10000 .f32) (x6 : Vec F S1x10000 .f32) (x7 : Vec F S128x128 .f32) (x8 : Vec F S1x1 .f32) (y9 y10 : Vec F S1x10000 .f32) (X : Vec F S10000x256 .f32) (d : Vec F S10000x256 .bf16) (a : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ owns (c : Thread nD τ) arg11 fullShare y10 ∗ owns (c : Thread nD τ) arg12 fullShare X ∗ owns (c : Thread nD τ) arg13 fullShare d ∗ owns (c : Thread nD τ) arg14 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ owns (c : Thread nD τ) arg11 fullShare y10 ∗ owns (c : Thread nD τ) arg12 fullShare X ∗ (∃ d', iprop(⌜Stored i d d' (k0_pay5 x2 X x4)⌝ ∗ owns (c : Thread nD τ) arg13 fullShare d')) ∗ owns (c : Thread nD τ) arg14 fullShare (k0_pay6 x2 X x4 a)) -∗ K ⟨⟩))
      ⊢ wp frame (wpE (defs₀ (F := F)) Variants.none c none) E (cc0__dgi_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__dgi_body_eq_skeleton]; unfold cc0__dgi_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%fX, %hfX, HX⟩, ⟨%fd, %hfd, Hd⟩, ⟨%fa, %hfa, Ha⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hfX; obtain rfl := harg13.eq_unread hfd; obtain rfl := harg14.eq_unread hfa
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [HX]
  · iexists _; isplitr; · ipureintro; exact harg12.read_unread _
    iexact HX
  isplitl [Hd]
  · iexists _; isplitr; swap
    · iexists _; isplitr; swap; · iexact Hd
      ipureintro; rfl
    ipureintro
    simp (config := { proj := false }) only [View.readAt_full, harg3.read_unread, harg12.read_unread, harg5.read_unread]
    exact stored_writes i arg13 harg13 d _ _
  iexists _; isplitr; swap; · iexact Ha
  ipureintro
  simp (config := { proj := false }) only [View.readAt_full, View.read_writes_full, harg3.read_unread, harg12.read_unread, harg5.read_unread, harg14.read_unread]

set_option maxHeartbeats 4000000 in
/-- The body at the last point. -/
theorem body_last (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x256 .f32) (harg5 : arg5.IsWhole) (arg6 : Memref sig .tc .vmem S1x10000 .f32) (harg6 : arg6.IsWhole) (arg7 : Memref sig .tc .vmem S1x10000 .f32) (harg7 : arg7.IsWhole) (arg8 : Memref sig .tc .vmem S128x128 .f32) (harg8 : arg8.IsWhole) (arg9 : Memref sig .tc .vmem S1x1 .f32) (harg9 : arg9.IsWhole) (arg10 : Memref sig .tc .vmem S1x10000 .f32) (harg10 : arg10.IsWhole) (arg11 : Memref sig .tc .vmem S1x10000 .f32) (harg11 : arg11.IsWhole) (arg12 : Memref sig .tc .vmem S10000x256 .f32) (harg12 : arg12.IsWhole) (arg13 : Memref sig .tc .vmem S10000x256 .bf16) (harg13 : arg13.IsWhole) (arg14 : Memref sig .tc .vmem S1x128 .f32) (harg14 : arg14.IsWhole) (hc0 : ¬AtFirst i) (hc1 : AtLast i)
    (x0 : Vec F S10000x128 .f32) (x1 : Vec F S10000x128 .f32) (x2 : Vec F S400x10000 .f32) (x3 : Vec F S128x128 .f32) (x4 : Vec F S1x256 .f32) (x5 : Vec F S1x10000 .f32) (x6 : Vec F S1x10000 .f32) (x7 : Vec F S128x128 .f32) (x8 : Vec F S1x1 .f32) (X : Vec F S10000x256 .f32) (d : Vec F S10000x256 .bf16) (a : Vec F S1x128 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ y, owns (c : Thread nD τ) arg10 fullShare y) ∗ (∃ y, owns (c : Thread nD τ) arg11 fullShare y) ∗ owns (c : Thread nD τ) arg12 fullShare X ∗ owns (c : Thread nD τ) arg13 fullShare d ∗ owns (c : Thread nD τ) arg14 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d', iprop(⌜Stored i d d' (k0_pay5 x2 X x4)⌝ ∗ owns (c : Thread nD τ) arg10 fullShare (k0_pay9 (k0_pay6 x2 X x4 a) x7 (leftHalf d') x8 x5) ∗ owns (c : Thread nD τ) arg11 fullShare (k0_pay10 (k0_pay6 x2 X x4 a) x7 (rightHalf d') x8 x6) ∗ owns (c : Thread nD τ) arg12 fullShare X ∗ owns (c : Thread nD τ) arg13 fullShare d' ∗ owns (c : Thread nD τ) arg14 fullShare (k0_pay6 x2 X x4 a)))) -∗ K ⟨⟩))
      ⊢ wp frame (wpE (defs₀ (F := F)) Variants.none c none) E (cc0__dgi_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__dgi_body_eq_skeleton]; unfold cc0__dgi_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%y9, %f9, -, H9⟩, ⟨%y10, %f10, -, H10⟩, ⟨%fX, %hfX, HX⟩, ⟨%fd, %hfd, Hd⟩, ⟨%fa, %hfa, Ha⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg12.eq_unread hfX; obtain rfl := harg13.eq_unread hfd; obtain rfl := harg14.eq_unread hfa
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  iexists _
  isplitr; swap
  isplitl [H9]; swap
  isplitl [H10]; swap
  isplitl [HX]
  · iexists _; isplitr; · ipureintro; exact harg12.read_unread _
    iexact HX
  isplitl [Hd]
  · iexists _; isplitr; swap; · iexact Hd
    ipureintro; rfl
  · iexists _; isplitr; swap; · iexact Ha
    ipureintro
    sl_unfold_words
    simp (config := { proj := false }) only [View.readAt_full, View.read_writes_full, harg3.read_unread, harg12.read_unread, harg5.read_unread, harg14.read_unread]
  · iexists _; isplitr; swap; · iexact H10
    ipureintro
    sl_unfold_words
    rw [View.read_writes_full, View.readCov_full]
    simp (config := { proj := false }) only [View.readAt_full, harg3.read_unread, harg12.read_unread, harg5.read_unread, harg6.read_unread, harg7.read_unread, harg8.read_unread, harg9.read_unread, harg14.read_unread]
    rfl
  · iexists _; isplitr; swap; · iexact H9
    ipureintro
    sl_unfold_words
    rw [View.read_writes_full, View.readCov_full]
    simp (config := { proj := false }) only [View.readAt_full, harg3.read_unread, harg12.read_unread, harg5.read_unread, harg6.read_unread, harg7.read_unread, harg8.read_unread, harg9.read_unread, harg14.read_unread]
    rfl
  · ipureintro
    sl_unfold_words
    simp (config := { proj := false }) only [View.readAt_full, harg3.read_unread, harg12.read_unread, harg5.read_unread]
    exact stored_writes i arg13 harg13 d _ _

set_option maxHeartbeats 4000000 in
/-- The body at the first point. -/
theorem body_first (c : Dev nD) (i : grid0.Coords) (arg1 : Memref sig .tc .vmem S10000x128 .f32) (harg1 : arg1.IsWhole) (arg2 : Memref sig .tc .vmem S10000x128 .f32) (harg2 : arg2.IsWhole) (arg3 : Memref sig .tc .vmem S400x10000 .f32) (harg3 : arg3.IsWhole) (arg4 : Memref sig .tc .vmem S128x128 .f32) (harg4 : arg4.IsWhole) (arg5 : Memref sig .tc .vmem S1x256 .f32) (harg5 : arg5.IsWhole) (arg6 : Memref sig .tc .vmem S1x10000 .f32) (harg6 : arg6.IsWhole) (arg7 : Memref sig .tc .vmem S1x10000 .f32) (harg7 : arg7.IsWhole) (arg8 : Memref sig .tc .vmem S128x128 .f32) (harg8 : arg8.IsWhole) (arg9 : Memref sig .tc .vmem S1x1 .f32) (harg9 : arg9.IsWhole) (arg10 : Memref sig .tc .vmem S1x10000 .f32) (harg10 : arg10.IsWhole) (arg11 : Memref sig .tc .vmem S1x10000 .f32) (harg11 : arg11.IsWhole) (arg12 : Memref sig .tc .vmem S10000x256 .f32) (harg12 : arg12.IsWhole) (arg13 : Memref sig .tc .vmem S10000x256 .bf16) (harg13 : arg13.IsWhole) (arg14 : Memref sig .tc .vmem S1x128 .f32) (harg14 : arg14.IsWhole) (hc0 : AtFirst i) (hc1 : ¬AtLast i)
    (x0 : Vec F S10000x128 .f32) (x1 : Vec F S10000x128 .f32) (x2 : Vec F S400x10000 .f32) (x3 : Vec F S128x128 .f32) (x4 : Vec F S1x256 .f32) (x5 : Vec F S1x10000 .f32) (x6 : Vec F S1x10000 .f32) (x7 : Vec F S128x128 .f32) (x8 : Vec F S1x1 .f32) (y9 y10 : Vec F S1x10000 .f32) (d : Vec F S10000x256 .bf16) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ owns (c : Thread nD τ) arg11 fullShare y10 ∗ (∃ y, owns (c : Thread nD τ) arg12 fullShare y) ∗ owns (c : Thread nD τ) arg13 fullShare d ∗ (∃ y, owns (c : Thread nD τ) arg14 fullShare y)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare y9 ∗ owns (c : Thread nD τ) arg11 fullShare y10 ∗ owns (c : Thread nD τ) arg12 fullShare (sideBySide (k0_pay1 x0 x3) (k0_pay2 x1 x3)) ∗ (∃ d', iprop(⌜Stored i d d' (k0_pay5 x2 (sideBySide (k0_pay1 x0 x3) (k0_pay2 x1 x3)) x4)⌝ ∗ owns (c : Thread nD τ) arg13 fullShare d')) ∗ owns (c : Thread nD τ) arg14 fullShare (k0_pay6 x2 (sideBySide (k0_pay1 x0 x3) (k0_pay2 x1 x3)) x4 k0_pay3)) -∗ K ⟨⟩))
      ⊢ wp frame (wpE (defs₀ (F := F)) Variants.none c none) E (cc0__dgi_body i arg1 harg1 arg2 harg2 arg3 harg3 arg4 harg4 arg5 harg5 arg6 harg6 arg7 harg7 arg8 harg8 arg9 harg9 arg10 harg10 arg11 harg11 arg12 harg12 arg13 harg13 arg14 harg14) K := by
  simp only [cc0__dgi_body_eq_skeleton]; unfold cc0__dgi_body_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%y12, %fX, -, HX⟩, ⟨%fd, %hfd, Hd⟩, ⟨%y14, %fa, -, Ha⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg13.eq_unread hfd
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _; isplitr; · ipureintro; exact harg10.read_unread _
    iexact H9
  isplitl [H10]
  · iexists _; isplitr; · ipureintro; exact harg11.read_unread _
    iexact H10
  isplitl [HX]
  · iexists _; isplitr; swap; · iexact HX
    ipureintro
    sl_unfold_words
    simp (config := { proj := false }) only [View.readAt_full, harg1.read_unread, harg2.read_unread, harg4.read_unread]
    exact read_halves (F := F) arg12 _ _ _ _ _
  isplitl [Hd]
  · iexists _; isplitr; swap
    · iexists _; isplitr; swap; · iexact Hd
      ipureintro; rfl
    ipureintro
    sl_unfold_words
    rw [readCov_halves]
    simp (config := { proj := false }) only [View.readAt_full, harg1.read_unread, harg2.read_unread, harg3.read_unread, harg4.read_unread, harg5.read_unread]
    exact stored_writes i arg13 harg13 d _ _
  iexists _; isplitr; swap; · iexact Ha
  ipureintro
  sl_unfold_words
  rw [View.read_writes_full, View.readCov_full, readCov_halves]
  simp (config := { proj := false }) only [View.readAt_full, harg1.read_unread, harg2.read_unread, harg3.read_unread, harg4.read_unread, harg5.read_unread]

end Cert.Layer

end
-- ==== Proof.Data.lean ====
/- What the layer kernel's buffers hold between grid points, and the launch that follows. -/
module

public import proofs.«01_k».proof.Proof.Body
public import Idealize.ShloMosaic.Lib.Claim

@[expose] public section

set_option maxRecDepth 16384

noncomputable section

namespace Cert.Layer

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the buffers hold -/

/-- The first grid point. -/
def first : Fin cfg0.N := ⟨0, Nat.lt_of_lt_of_eq (by decide) N_0.symm⟩

/-- The features: both inputs times the weights, side by side. -/
def feat (c : Dev nD) : Vec F S10000x256 .f32 :=
  sideBySide (k0_pay1 (iblk m c 0 first) (iblk m c 3 first)) (k0_pay2 (iblk m c 1 first) (iblk m c 3 first))

/-- The 400 rows of hidden features point `t` computes. -/
def rows (c : Dev nD) (t : Fin cfg0.N) : Vec F S400x256 .bf16 :=
  k0_pay5 (iblk m c 2 t) (feat m c) (iblk m c 4 t)

/-- The hidden features, all rows. -/
def hid (c : Dev nD) : Vec F S10000x256 .bf16 := fun j =>
  rows m c ⟨(j 0).val / 400, Nat.lt_of_lt_of_eq (by have := idx2_lt0 j; omega) N_0.symm⟩
    (ix2 (n0 := 400) (n1 := 256) ⟨(j 0).val % 400, Nat.mod_lt _ (by decide)⟩ (j 1))

/-- The running column sum after the first `n` points. -/
def runSum (c : Dev nD) : ℕ → Vec F S1x128 .f32
  | 0 => k0_pay3
  | n + 1 => if h : n < cfg0.N then k0_pay6 (iblk m c 2 ⟨n, h⟩) (feat m c) (iblk m c 4 ⟨n, h⟩) (runSum c n) else runSum c n

theorem runSum_succ (c : Dev nD) (t : Fin cfg0.N) :
    runSum m c (t.val + 1) = k0_pay6 (iblk m c 2 t) (feat m c) (iblk m c 4 t) (runSum m c t.val) := by
  rw [runSum, dif_pos t.isLt]

/-- `d` holds the hidden features in the rows of the first `n` points. -/
def Filled (c : Dev nD) (n : ℕ) (d : Vec F S10000x256 .bf16) : Prop :=
  ∀ (r : Fin 10000) (q : Fin 256), r.val < 400 * n → d (ix2 r q) = hid m c (ix2 r q)

/-- A point's store extends the filled rows by its own. -/
theorem filled_step (c : Dev nD) (t : Fin cfg0.N) (d d' : Vec F S10000x256 .bf16)
    (hs : Stored (grid0.coords t) d d' (rows m c t)) (hd : Filled m c t.val d) : Filled m c (t.val + 1) d' := by
  intro r q hr
  have ho := off_row t
  rw [hs r q]
  split
  · rename_i h
    have e : (⟨r.val / 400, Nat.lt_of_lt_of_eq (by have := r.isLt; omega) N_0.symm⟩ : Fin cfg0.N) = t := Fin.ext (by show r.val / 400 = t.val; omega)
    show _ = rows m c (⟨r.val / 400, Nat.lt_of_lt_of_eq (by have := r.isLt; omega) N_0.symm⟩ : Fin cfg0.N) (ix2 (n0 := 400) (n1 := 256) ⟨r.val % 400, Nat.mod_lt _ (by decide)⟩ q)
    rw [e]
    refine congrArg (rows m c t) (congrArg (fun x => ix2 (n0 := 400) (n1 := 256) x q) (Fin.ext ?_))
    show r.val - k0_off1 (grid0.coords t) 0 = r.val % 400
    omega
  · rename_i h
    exact hd r q (by omega)

/-- Filled by all the points, the buffer is the hidden features. -/
theorem filled_all (c : Dev nD) (d : Vec F S10000x256 .bf16) (hd : Filled m c 25 d) : d = hid m c := by
  funext j
  rw [eq_ix2 j]
  exact hd _ _ (by have := idx2_lt0 j; show (j 0).val < 400 * 25; omega)

/-- The first row of scores, as the last point writes it. -/
def score1 (c : Dev nD) (t : Fin cfg0.N) : Vec F S1x10000 .f32 :=
  k0_pay9 (runSum m c 25) (iblk m c 7 t) (leftHalf (hid m c)) (iblk m c 8 t) (iblk m c 5 t)
/-- The second row of scores, as the last point writes it. -/
def score2 (c : Dev nD) (t : Fin cfg0.N) : Vec F S1x10000 .f32 :=
  k0_pay10 (runSum m c 25) (iblk m c 7 t) (rightHalf (hid m c)) (iblk m c 8 t) (iblk m c 6 t)

/-- What is held before position `n`: before the first, every scratch at anything; afterwards the features, the hidden
    features in the rows done so far and the running sum, with the generator register at some state. -/
def PhiS (c : Dev nD) : (n : ℕ) → n ≤ cfg0.N → sProp 𝕄
  | 0, _ => Pipeline.ΦA spec0 c
  | n + 1, _ => iprop(iprop(owns (c : Thread nD τ) scrX fullShare (feat m c) ∗ (∃ d, iprop(⌜Filled m c (n + 1) d⌝ ∗ owns (c : Thread nD τ) scrH fullShare d)) ∗ owns (c : Thread nD τ) scrA fullShare (runSum m c (n + 1))) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scrX fullShare (feat m c) ∗ (∃ d, iprop(⌜Filled m c (n + 1) d⌝ ∗ owns (c : Thread nD τ) scrH fullShare d)) ∗ owns (c : Thread nD τ) scrA fullShare (runSum m c (n + 1))) ∗ (∃ r, prngReg c r)) := rfl
theorem PhiS_pos (c : Dev nD) (n : ℕ) (h : n ≤ cfg0.N) (hz : n ≠ 0) :
    PhiS m c n h = iprop(iprop(owns (c : Thread nD τ) scrX fullShare (feat m c) ∗ (∃ d, iprop(⌜Filled m c n d⌝ ∗ owns (c : Thread nD τ) scrH fullShare d)) ∗ owns (c : Thread nD τ) scrA fullShare (runSum m c n)) ∗ (∃ r, prngReg c r)) := by
  cases n with
  | zero => exact absurd rfl hz
  | succ n => rfl

/-- The proof data of the pipeline on core `c`: each input's buffer keeps its block; the outputs' hold the scores. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => score1 m c t
    | ⟨10, _⟩ => score2 m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = score1 m c t := by dsimp only [dats]
theorem after_10 (c : Dev nD) (t : Fin cfg0.N) : (dats m 0 c).after 10 t = score2 m c t := by dsimp only [dats]
theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem leaves_0 (c : Dev nD) (t : Fin cfg0.N) : (dats m 0 c).leavesExact 0 t = owns (c : Thread nD τ) (win0 t) fullShare (iblk m c 0 t) := by
  unfold Dat.leavesExact; rw [show cfg0.idle 0 (grid0.coords t) = false from rfl, after_0]
theorem leaves_1 (c : Dev nD) (t : Fin cfg0.N) : (dats m 0 c).leavesExact 1 t = owns (c : Thread nD τ) (win1 t) fullShare (iblk m c 1 t) := by
  unfold Dat.leavesExact; rw [show cfg0.idle 1 (grid0.coords t) = false from rfl, after_1]
theorem leaves_2 (c : Dev nD) (t : Fin cfg0.N) : (dats m 0 c).leavesExact 2 t = owns (c : Thread nD τ) (win2 t) fullShare (iblk m c 2 t) := by
  unfold Dat.leavesExact; rw [show cfg0.idle 2 (grid0.coords t) = false from rfl, after_2]
theorem leaves_3 (c : Dev nD) (t : Fin cfg0.N) : (dats m 0 c).leavesExact 3 t = owns (c : Thread nD τ) (win3 t) fullShare (iblk m c 3 t) := by
  unfold Dat.leavesExact; rw [show cfg0.idle 3 (grid0.coords t) = false from rfl, after_3]
theorem leaves_4 (c : Dev nD) (t : Fin cfg0.N) : (dats m 0 c).leavesExact 4 t = owns (c : Thread nD τ) (win4 t) fullShare (iblk m c 4 t) := by
  unfold Dat.leavesExact; rw [show cfg0.idle 4 (grid0.coords t) = false from rfl, after_4]
theorem leaves_5 (c : Dev nD) (t : Fin cfg0.N) : (dats m 0 c).leavesExact 5 t = owns (c : Thread nD τ) (win5 t) fullShare (iblk m c 5 t) := by
  unfold Dat.leavesExact; rw [show cfg0.idle 5 (grid0.coords t) = false from rfl, after_5]
theorem leaves_6 (c : Dev nD) (t : Fin cfg0.N) : (dats m 0 c).leavesExact 6 t = owns (c : Thread nD τ) (win6 t) fullShare (iblk m c 6 t) := by
  unfold Dat.leavesExact; rw [show cfg0.idle 6 (grid0.coords t) = false from rfl, after_6]
theorem leaves_7 (c : Dev nD) (t : Fin cfg0.N) : (dats m 0 c).leavesExact 7 t = owns (c : Thread nD τ) (win7 t) fullShare (iblk m c 7 t) := by
  unfold Dat.leavesExact; rw [show cfg0.idle 7 (grid0.coords t) = false from rfl, after_7]
theorem leaves_8 (c : Dev nD) (t : Fin cfg0.N) : (dats m 0 c).leavesExact 8 t = owns (c : Thread nD τ) (win8 t) fullShare (iblk m c 8 t) := by
  unfold Dat.leavesExact; rw [show cfg0.idle 8 (grid0.coords t) = false from rfl, after_8]
/-- Before the last point the body leaves output 9 alone. -/
theorem leaves_9_idle (c : Dev nD) (t : Fin cfg0.N) (ht : t.val ≠ 24) :
    (dats m 0 c).leavesExact 9 t = iprop(∃ d, owns (c : Thread nD τ) (win9 t) fullShare ((dats m 0 c).before 9 t d)) := by
  have hN : t.val < 25 := lt_of_lt_of_eq t.isLt N_0
  have hl : ¬ k0_cond2 (grid0.coords t) = 1#1 := fun h => ht ((atLast_iff t).mp h)
  refine (dats m 0 c).leavesExact_idle 9 t ?_ (Bool.eq_false_iff.mpr fun h => ?_)
  · show (!(k0_cond2 (grid0.coords t) == 1#1)) = true
    rw [beq_eq_false_iff_ne.mpr hl]; rfl
  · have := (flush0_9 t).mp h; omega
/-- The last point leaves output 9 at its row of scores. -/
theorem leaves_9_last (c : Dev nD) (t : Fin cfg0.N) (ht : t.val = 24) :
    (dats m 0 c).leavesExact 9 t = owns (c : Thread nD τ) (win9 t) fullShare (score1 m c t) := by
  have hl : k0_cond2 (grid0.coords t) = 1#1 := (atLast_iff t).mpr ht
  have hi : cfg0.idle 9 (grid0.coords t) = false := by
    show (!(k0_cond2 (grid0.coords t) == 1#1)) = false
    rw [hl]; rfl
  unfold Dat.leavesExact; rw [hi, after_9]
/-- Before the last point the body leaves output 10 alone. -/
theorem leaves_10_idle (c : Dev nD) (t : Fin cfg0.N) (ht : t.val ≠ 24) :
    (dats m 0 c).leavesExact 10 t = iprop(∃ d, owns (c : Thread nD τ) (win10 t) fullShare ((dats m 0 c).before 10 t d)) := by
  have hN : t.val < 25 := lt_of_lt_of_eq t.isLt N_0
  have hl : ¬ k0_cond2 (grid0.coords t) = 1#1 := fun h => ht ((atLast_iff t).mp h)
  refine (dats m 0 c).leavesExact_idle 10 t ?_ (Bool.eq_false_iff.mpr fun h => ?_)
  · show (!(k0_cond2 (grid0.coords t) == 1#1)) = true
    rw [beq_eq_false_iff_ne.mpr hl]; rfl
  · have := (flush0_10 t).mp h; omega
/-- The last point leaves output 10 at its row of scores. -/
theorem leaves_10_last (c : Dev nD) (t : Fin cfg0.N) (ht : t.val = 24) :
    (dats m 0 c).leavesExact 10 t = owns (c : Thread nD τ) (win10 t) fullShare (score2 m c t) := by
  have hl : k0_cond2 (grid0.coords t) = 1#1 := (atLast_iff t).mpr ht
  have hi : cfg0.idle 10 (grid0.coords t) = false := by
    show (!(k0_cond2 (grid0.coords t) == 1#1)) = false
    rw [hl]; rfl
  unfold Dat.leavesExact; rw [hi, after_10]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (win0 t) fullShare ((dats m 0 c).before 0 t d))
    ∗ (∃ d, owns (c : Thread nD τ) (win1 t) fullShare ((dats m 0 c).before 1 t d))
    ∗ (∃ d, owns (c : Thread nD τ) (win2 t) fullShare ((dats m 0 c).before 2 t d))
    ∗ (∃ d, owns (c : Thread nD τ) (win3 t) fullShare ((dats m 0 c).before 3 t d))
    ∗ (∃ d, owns (c : Thread nD τ) (win4 t) fullShare ((dats m 0 c).before 4 t d))
    ∗ (∃ d, owns (c : Thread nD τ) (win5 t) fullShare ((dats m 0 c).before 5 t d))
    ∗ (∃ d, owns (c : Thread nD τ) (win6 t) fullShare ((dats m 0 c).before 6 t d))
    ∗ (∃ d, owns (c : Thread nD τ) (win7 t) fullShare ((dats m 0 c).before 7 t d))
    ∗ (∃ d, owns (c : Thread nD τ) (win8 t) fullShare ((dats m 0 c).before 8 t d))
    ∗ (∃ d, owns (c : Thread nD τ) (win9 t) fullShare ((dats m 0 c).before 9 t d))
    ∗ (∃ d, owns (c : Thread nD τ) (win10 t) fullShare ((dats m 0 c).before 10 t d)))
/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 14400000 in
/-- The body at any point takes the invariant before it to the invariant after it. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6, before_7, before_8, leaves_0, leaves_1, leaves_2, leaves_3, leaves_4, leaves_5, leaves_6, leaves_7, leaves_8]
  rw [show (dats m 0 c).owesAt () t.succ = (dats m 0 c).owesAt () t.castSucc from rfl]
  rw [show (dats m 0 c).Φ t.succ = PhiS m c (t.val + 1) t.isLt from rfl, PhiS_succ]
  have hN : t.val < 25 := lt_of_lt_of_eq t.isLt N_0
  by_cases h1 : t.val = 24
  · rw [leaves_9_last m c t h1, leaves_10_last m c t h1, PhiS_castSucc m c t, PhiS_pos m c _ _ (by omega)]
    iintro ⟨⟨⟨HS0, ⟨%d, %hd, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply (body_last c (grid0.coords t) _ _ _ _ _ _ _ _ _ _ _ _ _ _ _ _ _ _ _ _ _ _ _ _ _ _ _ _ (fun h => by have := (atFirst_iff t).mp h; omega) ((atLast_iff t).mpr h1) (iblk m c 0 t) (iblk m c 1 t) (iblk m c 2 t) (iblk m c 3 t) (iblk m c 4 t) (iblk m c 5 t) (iblk m c 6 t) (iblk m c 7 t) (iblk m c 8 t) (feat m c) d (runSum m c t.val) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexists _; iexact H9
    isplitl [H10]; · iexists _; iexact H10
    isplitl [HS0]; · iexact HS0
    isplitl [HS1]; · iexact HS1
    isplitl [HS2]; · iexact HS2
    iintro ⟨H0, H1, H2, H3, H4, H5, H6, H7, H8, ⟨%d', %hs, H9, H10, HS0, HS1, HS2⟩⟩
    have hf : Filled m c (t.val + 1) d' := filled_step m c t d d' hs hd
    have he : d' = hid m c := filled_all m c d' (by rw [h1] at hf; exact hf)
    have hr : k0_pay6 (iblk m c 2 t) (feat m c) (iblk m c 4 t) (runSum m c t.val) = runSum m c 25 := by
      rw [← runSum_succ m c t, h1]
    isplitl [HS0 HS1 HS2 Hg]
    · isplitl [HS0 HS1 HS2]
      · isplitl [HS0]
        · iexact HS0
        isplitl [HS1]
        · iexists d'; isplitr; · ipureintro; exact hf
          iexact HS1
        rw [runSum_succ m c t]
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]
    · unfold score1; rw [← hr, ← he]; iexact H9
    unfold score2; rw [← hr, ← he]; iexact H10
  · rw [leaves_9_idle m c t h1, leaves_10_idle m c t h1, PhiS_castSucc m c t]
    by_cases h0 : t.val = 0
    · have ht : t = first := Fin.ext h0
      rw [PhiS_zero m c _ _ h0, start_eq]
      iintro ⟨⟨⟨HS0, ⟨%d, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (body_first c (grid0.coords t) _ _ _ _ _ _ _ _ _ _ _ _ _ _ _ _ _ _ _ _ _ _ _ _ _ _ _ _ ((atFirst_iff t).mpr h0) (fun h => h1 ((atLast_iff t).mp h)) (iblk m c 0 t) (iblk m c 1 t) (iblk m c 2 t) (iblk m c 3 t) (iblk m c 4 t) (iblk m c 5 t) (iblk m c 6 t) (iblk m c 7 t) (iblk m c 8 t) _ _ d Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      iintro ⟨H0, H1, H2, H3, H4, H5, H6, H7, H8, H9, H10, HS0, ⟨%d', %hs, HS1⟩, HS2⟩
      have hx : sideBySide (k0_pay1 (iblk m c 0 t) (iblk m c 3 t)) (k0_pay2 (iblk m c 1 t) (iblk m c 3 t)) = feat m c := by
        rw [ht]; rfl
      have hr : runSum m c t.val = k0_pay3 := by rw [h0]; rfl
      have hf : Filled m c (t.val + 1) d' := filled_step m c t d d' (by rw [hx] at hs; exact hs) (fun r q h => absurd h (by omega))
      isplitl [HS0 HS1 HS2 Hg]
      · isplitl [HS0 HS1 HS2]
        · isplitl [HS0]
          · rw [← hx]; iexact HS0
          isplitl [HS1]
          · iexists d'; isplitr; · ipureintro; exact hf
            iexact HS1
          rw [runSum_succ m c t, hr, ← hx]
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10
    · rw [PhiS_pos m c _ _ h0]
      iintro ⟨⟨⟨HS0, ⟨%d, %hd, HS1⟩, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
      iapply (body_mid c (grid0.coords t) _ _ _ _ _ _ _ _ _ _ _ _ _ _ _ _ _ _ _ _ _ _ _ _ _ _ _ _ (fun h => h0 ((atFirst_iff t).mp h)) (fun h => h1 ((atLast_iff t).mp h)) (iblk m c 0 t) (iblk m c 1 t) (iblk m c 2 t) (iblk m c 3 t) (iblk m c 4 t) (iblk m c 5 t) (iblk m c 6 t) (iblk m c 7 t) (iblk m c 8 t) _ _ (feat m c) d (runSum m c t.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [HS0]; · iexact HS0
      isplitl [HS1]; · iexact HS1
      isplitl [HS2]; · iexact HS2
      iintro ⟨H0, H1, H2, H3, H4, H5, H6, H7, H8, H9, H10, HS0, ⟨%d', %hs, HS1⟩, HS2⟩
      have hf : Filled m c (t.val + 1) d' := filled_step m c t d d' hs hd
      isplitl [HS0 HS1 HS2 Hg]
      · isplitl [HS0 HS1 HS2]
        · isplitl [HS0]
          · iexact HS0
          isplitl [HS1]
          · iexists d'; isplitr; · ipureintro; exact hf
            iexact HS1
          rw [runSum_succ m c t]
          iexact HS2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexists _; iexact H9
      iexists _; iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives the scratch back at some contents. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 25 := N_0; omega), start_eq]
  iintro ⟨⟨HS0, ⟨%d, %hd, HS1⟩, HS2⟩, Hg⟩
  isplitl [HS0 HS1 HS2]
  · isplitl [HS0]
    · iexists _; iexact HS0
    isplitl [HS1]
    · iexists _; iexact HS1
    iexists _; iexact HS2
  iexact Hg

/-! ## The run -/

set_option backward.isDefEq.respectTransparency.types false in
set_option maxHeartbeats 800000 in
/-- Every execution of the program terminates with every array of the pipeline at what the proof data say, the other
    buffers at what the later host lines leave, and every semaphore counter at zero. -/
theorem run_quiescent : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The same without the counters. -/
theorem run_main : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (frame_of m ρ (dats m) (A_eq m) (run_main m ρ)) ((θ_run defs _ _).mono (fun _ h => h.2) (run_quiescent m ρ))

end Cert.Layer

end
-- ==== Proof.Blocks.lean ====
/- What the blocks that the layer kernel reads hold, as entries of the arguments. -/
module

public import proofs.«01_k».proof.Proof.Data
public import Idealize.ShloMosaic.Lib.Pipeline.ValueKit.Geometry
public import Idealize.ShloMosaic.Lib.ValueLayout
public import Idealize.ShloMosaic.PureOps.Ideal

@[expose] public section

set_option maxRecDepth 16384

noncomputable section

namespace Cert.Layer

open Idealize.ShloMosaic Idealize.ShloMosaic.TcCoe Idealize.ShloMosaic.Tactic
open Idealize.SL Idealize.SL.Sem
open Idealize.ShloMosaic.Pipeline (Dat Cfg Window BodyObligation cellOf)
open Cert.KernelIdeal Cert.KernelIdeal.Gen
open Idealize.ShloMosaic.ValueIdx

variable (m : (ℓ : Loc nD τ sig) → Buf (Elt Ideal) ℓ)

/-! ## Where a block's entries lie in its array -/

/-- The adjacency window's block index at a point is the point's position, down the rows. -/
theorem adj_index (t : Fin cfg0.N) : (cfg0.win 2).index t = ![t.val, 0] := by
  have h : ∀ t : Fin cfg0.N, (cfg0.win 2).index t = ![t.val, 0] := by decide +kernel
  exact h t

/-- An entry of the adjacency block is the array's entry 400 rows per point further down. -/
theorem adj_emb (t : Fin cfg0.N) (r : Fin 400) (k : Fin 10000) (h : 400 * t.val + r.val < 10000) :
    ((cfg0.win 2).rect t).emb (ix2 r k) = ix2 (n0 := 10000) (n1 := 10000) ⟨400 * t.val + r.val, h⟩ k := by
  have e := adj_index t
  refine funext fun a => Fin.ext ?_
  rw [(cfg0.win 2).rect_emb_val t (ix2 r k) a, e]
  fin_cases a
  · show t.val * 400 + r.val = 400 * t.val + r.val
    omega
  · show 0 * 10000 + k.val = k.val
    omega

/-- Window 0's block is its whole array. -/
theorem emb_0 (t : Fin cfg0.N) (r : Fin 10000) (k : Fin 128) :
    ((cfg0.win 0).rect t).emb (ix2 r k) = ix2 (n0 := 10000) (n1 := 128) r k := by
  have h : ∀ t : Fin cfg0.N, (cfg0.win 0).index t = ![0, 0] := by decide +kernel
  refine funext fun a => Fin.ext ?_
  rw [(cfg0.win 0).rect_emb_val_of_index_zero t a (by rw [h t]; fin_cases a <;> rfl)]

/-- Window 1's block is its whole array. -/
theorem emb_1 (t : Fin cfg0.N) (r : Fin 10000) (k : Fin 128) :
    ((cfg0.win 1).rect t).emb (ix2 r k) = ix2 (n0 := 10000) (n1 := 128) r k := by
  have h : ∀ t : Fin cfg0.N, (cfg0.win 1).index t = ![0, 0] := by decide +kernel
  refine funext fun a => Fin.ext ?_
  rw [(cfg0.win 1).rect_emb_val_of_index_zero t a (by rw [h t]; fin_cases a <;> rfl)]

/-- Window 3's block is its whole array. -/
theorem emb_3 (t : Fin cfg0.N) (r : Fin 128) (k : Fin 128) :
    ((cfg0.win 3).rect t).emb (ix2 r k) = ix2 (n0 := 128) (n1 := 128) r k := by
  have h : ∀ t : Fin cfg0.N, (cfg0.win 3).index t = ![0, 0] := by decide +kernel
  refine funext fun a => Fin.ext ?_
  rw [(cfg0.win 3).rect_emb_val_of_index_zero t a (by rw [h t]; fin_cases a <;> rfl)]

/-- Window 4's block is its whole array. -/
theorem emb_4 (t : Fin cfg0.N) (r : Fin 1) (k : Fin 256) :
    ((cfg0.win 4).rect t).emb (ix2 r k) = ix2 (n0 := 1) (n1 := 256) r k := by
  have h : ∀ t : Fin cfg0.N, (cfg0.win 4).index t = ![0, 0] := by decide +kernel
  refine funext fun a => Fin.ext ?_
  rw [(cfg0.win 4).rect_emb_val_of_index_zero t a (by rw [h t]; fin_cases a <;> rfl)]

/-- Window 5's block is its whole array. -/
theorem emb_5 (t : Fin cfg0.N) (r : Fin 1) (k : Fin 10000) :
    ((cfg0.win 5).rect t).emb (ix2 r k) = ix2 (n0 := 1) (n1 := 10000) r k := by
  have h : ∀ t : Fin cfg0.N, (cfg0.win 5).index t = ![0, 0] := by decide +kernel
  refine funext fun a => Fin.ext ?_
  rw [(cfg0.win 5).rect_emb_val_of_index_zero t a (by rw [h t]; fin_cases a <;> rfl)]

/-- Window 6's block is its whole array. -/
theorem emb_6 (t : Fin cfg0.N) (r : Fin 1) (k : Fin 10000) :
    ((cfg0.win 6).rect t).emb (ix2 r k) = ix2 (n0 := 1) (n1 := 10000) r k := by
  have h : ∀ t : Fin cfg0.N, (cfg0.win 6).index t = ![0, 0] := by decide +kernel
  refine funext fun a => Fin.ext ?_
  rw [(cfg0.win 6).rect_emb_val_of_index_zero t a (by rw [h t]; fin_cases a <;> rfl)]

/-- Window 7's block is its whole array. -/
theorem emb_7 (t : Fin cfg0.N) (r : Fin 128) (k : Fin 128) :
    ((cfg0.win 7).rect t).emb (ix2 r k) = ix2 (n0 := 128) (n1 := 128) r k := by
  have h : ∀ t : Fin cfg0.N, (cfg0.win 7).index t = ![0, 0] := by decide +kernel
  refine funext fun a => Fin.ext ?_
  rw [(cfg0.win 7).rect_emb_val_of_index_zero t a (by rw [h t]; fin_cases a <;> rfl)]

/-- Window 8's block is its whole array. -/
theorem emb_8 (t : Fin cfg0.N) (r : Fin 1) (k : Fin 1) :
    ((cfg0.win 8).rect t).emb (ix2 r k) = ix2 (n0 := 1) (n1 := 1) r k := by
  have h : ∀ t : Fin cfg0.N, (cfg0.win 8).index t = ![0, 0] := by decide +kernel
  refine funext fun a => Fin.ext ?_
  rw [(cfg0.win 8).rect_emb_val_of_index_zero t a (by rw [h t]; fin_cases a <;> rfl)]

/-! ## The blocks' entries -/

/-- The first input's block holds the first input. -/
theorem blk_seq1 (c : Dev nD) (t : Fin cfg0.N) (n : Fin 10000) (e : Fin 128) :
    iblk m c 0 t (ix2 n e) = m ((c : Thread nD τ).loc main_arg0) (ix3 (0 : Fin 1) n e) := by
  show V m c main_v0 (((cfg0.win 0).rect t).emb (ix2 n e)) = _
  rw [emb_0]
  entry_read
  exact shapeCast_1ab_ab_apply _ _ _ _

/-- The second input's block holds the second input. -/
theorem blk_seq2 (c : Dev nD) (t : Fin cfg0.N) (n : Fin 10000) (e : Fin 128) :
    iblk m c 1 t (ix2 n e) = m ((c : Thread nD τ).loc main_arg1) (ix3 (0 : Fin 1) n e) := by
  show V m c main_v1 (((cfg0.win 1).rect t).emb (ix2 n e)) = _
  rw [emb_1]
  entry_read
  exact shapeCast_1ab_ab_apply _ _ _ _

/-- The adjacency block at a point holds the point's 400 rows. -/
theorem blk_adj (c : Dev nD) (t : Fin cfg0.N) (r : Fin 400) (k : Fin 10000) (h : 400 * t.val + r.val < 10000) :
    iblk m c 2 t (ix2 r k) = m ((c : Thread nD τ).loc main_arg2) (ix3 (0 : Fin 1) ⟨400 * t.val + r.val, h⟩ k) := by
  show V m c main_v2 (((cfg0.win 2).rect t).emb (ix2 r k)) = _
  rw [adj_emb t r k h]
  entry_read
  exact shapeCast_1ab_ab_apply _ _ _ _

/-- The weights' block holds the weights. -/
theorem blk_w (c : Dev nD) (t : Fin cfg0.N) (e d : Fin 128) :
    iblk m c 3 t (ix2 e d) = m ((c : Thread nD τ).loc main_arg5) (ix2 e d) := by
  show V m c main_arg5 (((cfg0.win 3).rect t).emb (ix2 e d)) = _
  rw [emb_3]
  exact congrFun (V_main_arg5 m c) _

/-- The bias block holds the bias twice over. -/
theorem blk_b (c : Dev nD) (t : Fin cfg0.N) (q : Fin 256) (d : Fin 128) (h : q.val % 128 = d.val) :
    iblk m c 4 t (ix2 (0 : Fin 1) q) = m ((c : Thread nD τ).loc main_arg6) (ix1 d) := by
  show V m c main_v4 (((cfg0.win 4).rect t).emb (ix2 (0 : Fin 1) q)) = _
  rw [emb_4]
  have e : V m c main_v4 = shapeCast S1x256 (concatenate S256 0 [⟨S128, m ((c : Thread nD τ).loc main_arg6)⟩,
      ⟨S128, m ((c : Thread nD τ).loc main_arg6)⟩] concatenates_S128_S128_S256_d0) shapeCasts_S256_S1x256 := rfl
  rw [e]
  refine (shapeCast_a_1a_apply _ _ _ _).trans ?_
  by_cases hq : q.val < 128
  · refine concatenate_pair_apply_left (t := S256) (s₁ := S128) (s₂ := S128) 0 _ _ _ _ rfl _ fun b => ?_
    fin_cases b
    show d.val = q.val
    omega
  · refine concatenate_pair_apply_right (t := S256) (s₁ := S128) (s₂ := S128) 0 _ _ _ _ rfl rfl _ (fun b hb => ?_) ?_
    · fin_cases b
      exact absurd rfl hb
    · show d.val + 128 = q.val
      have := q.isLt
      omega

/-- The first score addend's block holds it. -/
theorem blk_s1 (c : Dev nD) (t : Fin cfg0.N) (n : Fin 10000) :
    iblk m c 5 t (ix2 (0 : Fin 1) n) = m ((c : Thread nD τ).loc main_arg3) (ix2 (0 : Fin 1) n) := by
  show V m c main_arg3 (((cfg0.win 5).rect t).emb (ix2 (0 : Fin 1) n)) = _
  rw [emb_5]
  exact congrFun (V_main_arg3 m c) _

/-- The second score addend's block holds it. -/
theorem blk_s2 (c : Dev nD) (t : Fin cfg0.N) (n : Fin 10000) :
    iblk m c 6 t (ix2 (0 : Fin 1) n) = m ((c : Thread nD τ).loc main_arg4) (ix2 (0 : Fin 1) n) := by
  show V m c main_arg4 (((cfg0.win 6).rect t).emb (ix2 (0 : Fin 1) n)) = _
  rw [emb_6]
  exact congrFun (V_main_arg4 m c) _

/-- The bilinear weights' block holds them. -/
theorem blk_wd (c : Dev nD) (t : Fin cfg0.N) (d e : Fin 128) :
    iblk m c 7 t (ix2 d e) = m ((c : Thread nD τ).loc main_arg7) (ix2 d e) := by
  show V m c main_arg7 (((cfg0.win 7).rect t).emb (ix2 d e)) = _
  rw [emb_7]
  exact congrFun (V_main_arg7 m c) _

/-- The score's bias block holds the one number. -/
theorem blk_bd (c : Dev nD) (t : Fin cfg0.N) :
    iblk m c 8 t (ix2 (0 : Fin 1) (0 : Fin 1)) = m ((c : Thread nD τ).loc main_arg8) ix0 := by
  show V m c main_v5 (((cfg0.win 8).rect t).emb (ix2 (0 : Fin 1) (0 : Fin 1))) = _
  rw [emb_8]
  have e : V m c main_v5 = shapeCast S1x1 (m ((c : Thread nD τ).loc main_arg8)) shapeCasts_S_S1x1 := rfl
  rw [e]
  exact shapeCast_apply _ _ _ _ rfl

end Cert.Layer

end
-- ==== Proof.Maths.lean ====
/- The mathematics of the layer over the extended reals: its three formulas and the one exchange of sums that the
   kernel makes. No program is named here. -/
module

public import Idealize.ShloMosaic.Lib.ValueIdx
public import Idealize.ShloMosaic.PureOps.Ideal

@[expose] public section

noncomputable section

namespace Cert.Maths

open Idealize.ShloMosaic
open scoped BigOperators

/-- The hidden feature of node `n` in column `d`: the node's neighbours' features weighted by the adjacency, plus the
    bias, clipped below at zero. -/
def hidden (x : Fin 10000 → Fin 128 → EReal) (a : Fin 10000 → Fin 10000 → EReal) (w : Fin 128 → Fin 128 → EReal)
    (b : Fin 128 → EReal) (n : Fin 10000) (d : Fin 128) : EReal :=
  max (∑ k, a n k * (∑ e, x k e * w e d) + b d) 0

/-- The graph's summary in column `e`: the logistic of the column's mean. -/
def summary (h : Fin 10000 → Fin 128 → EReal) (e : Fin 128) : EReal :=
  Ideal.logistic (Ideal.div (∑ n, h n e) (Ideal.ofBits .f32 0x461C4000#32))

/-- The bilinear score of one node's features against the summary, the features contracted first. -/
def score (c : Fin 128 → EReal) (w : Fin 128 → Fin 128 → EReal) (h : Fin 128 → EReal) : EReal :=
  ∑ e, c e * ∑ d, w d e * h d

/-! ## Extended reals that are real numbers -/

/-- `x` is a real number. -/
def IsReal (x : EReal) : Prop := ∃ r : ℝ, x = (r : EReal)

/-- A sum of two reals is real. -/
theorem IsReal.add {x y : EReal} (hx : IsReal x) (hy : IsReal y) : IsReal (x + y) := by
  obtain ⟨r, rfl⟩ := hx
  obtain ⟨s, rfl⟩ := hy
  exact ⟨r + s, (EReal.coe_add r s).symm⟩

/-- A product of two reals is real. -/
theorem IsReal.mul {x y : EReal} (hx : IsReal x) (hy : IsReal y) : IsReal (x * y) := by
  obtain ⟨r, rfl⟩ := hx
  obtain ⟨s, rfl⟩ := hy
  exact ⟨r * s, (EReal.coe_mul r s).symm⟩

/-- A finite sum of reals is real. -/
theorem IsReal.sum {ι : Type} (s : Finset ι) (f : ι → EReal) (hf : ∀ i, IsReal (f i)) : IsReal (∑ i ∈ s, f i) := by
  classical
  induction s using Finset.induction_on with
  | empty => exact ⟨0, by simp⟩
  | insert i s hi ih => rw [Finset.sum_insert hi]; exact (hf i).add ih

/-- A real clipped below at zero is real. -/
theorem IsReal.clip {x : EReal} (hx : IsReal x) : IsReal (max x 0) := by
  rcases max_choice x 0 with h | h <;> rw [h]
  · exact hx
  · exact ⟨0, rfl⟩

/-- A real number is not the top element. -/
theorem IsReal.ne_top {x : EReal} (hx : IsReal x) : x ≠ ⊤ := by
  obtain ⟨r, rfl⟩ := hx
  exact EReal.coe_ne_top r

/-- An extended real whose absolute value is below the top element is real. -/
theorem isReal_of_abs_lt {x : EReal} (h : max x (-x) < ⊤) : IsReal x := by
  induction x with
  | bot => simp at h
  | coe r => exact ⟨r, rfl⟩
  | top => simp at h

/-- With real inputs every hidden feature is real. -/
theorem hidden_isReal {x : Fin 10000 → Fin 128 → EReal} {a : Fin 10000 → Fin 10000 → EReal} {w : Fin 128 → Fin 128 → EReal}
    {b : Fin 128 → EReal} (hx : ∀ n e, IsReal (x n e)) (ha : ∀ n k, IsReal (a n k)) (hw : ∀ e d, IsReal (w e d))
    (hb : ∀ d, IsReal (b d)) (n : Fin 10000) (d : Fin 128) : IsReal (hidden x a w b n d) :=
  ((IsReal.sum _ _ fun k => (ha n k).mul (IsReal.sum _ _ fun e => (hx k e).mul (hw e d))).add (hb d)).clip

/-- A hidden feature is never negative. -/
theorem hidden_nonneg (x : Fin 10000 → Fin 128 → EReal) (a : Fin 10000 → Fin 10000 → EReal) (w : Fin 128 → Fin 128 → EReal)
    (b : Fin 128 → EReal) (n : Fin 10000) (d : Fin 128) : 0 ≤ hidden x a w b n d := le_max_right _ _

/-- The logistic of anything is a real number that is not negative. -/
theorem logistic_real (x : EReal) : 0 ≤ Ideal.logistic x ∧ Ideal.logistic x ≠ ⊤ := by
  induction x with
  | bot => rw [Ideal.logistic_bot]; exact ⟨le_rfl, EReal.zero_ne_top⟩
  | coe r =>
    rw [Ideal.logistic_coe]
    exact ⟨EReal.coe_nonneg.mpr (by positivity), EReal.coe_ne_top _⟩
  | top => rw [Ideal.logistic_top]; exact ⟨zero_le_one, EReal.coe_ne_top 1⟩

/-- A factor that is a nonnegative real goes into a sum from the left. -/
theorem mul_sum_of_nonneg {ι : Type} (s : Finset ι) (f : ι → EReal) {c : EReal} (h0 : 0 ≤ c) (ht : c ≠ ⊤) :
    c * ∑ i ∈ s, f i = ∑ i ∈ s, c * f i := by
  classical
  induction s using Finset.induction_on with
  | empty => simp
  | insert i s hi ih =>
    rw [Finset.sum_insert hi, Finset.sum_insert hi, EReal.left_distrib_of_nonneg_of_ne_top h0 ht, ih]

/-- The exchange: the summary contracted with the weights first and the features last is the score, for a summary and
    features that are nonnegative reals, whatever the weights. -/
theorem score_eq (c : Fin 128 → EReal) (w : Fin 128 → Fin 128 → EReal) (h : Fin 128 → EReal)
    (hc : ∀ e, 0 ≤ c e ∧ c e ≠ ⊤) (hh : ∀ d, 0 ≤ h d ∧ h d ≠ ⊤) :
    ∑ d, (∑ e, c e * w d e) * h d = score c w h := by
  have hl : ∀ d, (∑ e, c e * w d e) * h d = ∑ e, c e * (w d e * h d) := fun d => by
    rw [mul_comm, mul_sum_of_nonneg _ _ (hh d).1 (hh d).2]
    exact Finset.sum_congr rfl fun e _ => by rw [mul_comm, mul_assoc]
  have hr : ∀ e, c e * ∑ d, w d e * h d = ∑ d, c e * (w d e * h d) := fun e => mul_sum_of_nonneg _ _ (hc e).1 (hc e).2
  unfold score
  simp only [hl, hr]
  exact Finset.sum_comm

/-! ## A column sum taken 400 rows at a time -/

/-- A column of 10000 entries continued by zeros. -/
def padded (f : Fin 10000 → EReal) (i : ℕ) : EReal := if h : i < 10000 then f ⟨i, h⟩ else 0

/-- The first `400 (n + 1)` entries are the first `400 n` and the next block of 400. -/
theorem padded_step (f : Fin 10000 → EReal) (n : ℕ) (hn : n < 25) :
    ∑ i ∈ Finset.range (400 * (n + 1)), padded f i
      = ∑ i ∈ Finset.range (400 * n), padded f i + ∑ r : Fin 400, f ⟨400 * n + r.val, by have := r.isLt; omega⟩ := by
  rw [show 400 * (n + 1) = 400 * n + 400 by ring, Finset.sum_range_add]
  refine congrArg (_ + ·) ?_
  rw [Finset.sum_range]
  refine Finset.sum_congr rfl fun r _ => ?_
  have h : 400 * n + r.val < 10000 := by have := r.isLt; omega
  rw [padded, dif_pos h]

/-- All of them together are the whole column. -/
theorem padded_total (f : Fin 10000 → EReal) : ∑ i ∈ Finset.range (400 * 25), padded f i = ∑ n, f n := by
  rw [show 400 * 25 = 10000 by norm_num, Finset.sum_range]
  exact Finset.sum_congr rfl fun n _ => by rw [padded, dif_pos n.isLt]

end Cert.Maths

end
-- ==== Proof.KernelValue.lean ====
/- The two rows of scores the layer kernel writes, entry by entry, as formulas of the arguments. -/
module

public import proofs.«01_k».proof.Proof.Blocks
public import proofs.«01_k».proof.Proof.Maths

@[expose] public section

set_option maxRecDepth 16384

noncomputable section

namespace Cert.Layer

open Idealize.ShloMosaic Idealize.ShloMosaic.TcCoe Idealize.ShloMosaic.Tactic
open Idealize.SL Idealize.SL.Sem
open Idealize.ShloMosaic.Pipeline (Dat Cfg Window BodyObligation cellOf)
open Cert.KernelIdeal Cert.KernelIdeal.Gen
open Idealize.ShloMosaic.ValueIdx
open Cert.Maths
open scoped BigOperators

/-! ## The body's values at an index -/

/-- The first product of inputs and weights at an index. -/
theorem pay1_apply (a : Vec Ideal S10000x128 .f32) (b : Vec Ideal S128x128 .f32) (n : Fin 10000) (d : Fin 128) :
    k0_pay1 a b (ix2 n d) = ∑ e : Fin 128, a (ix2 n e) * b (ix2 e d) := by
  unfold k0_pay1
  simp only [shapeCast_self, matmul]
  refine (Ideal.matmul_plain_apply (M := 10000) (K := 128) (N := 128) none a b _ n d).trans ?_
  rw [constant_apply, Ideal.ofBits_zero_f32, zero_add]

/-- The second product of inputs and weights at an index. -/
theorem pay2_apply (a : Vec Ideal S10000x128 .f32) (b : Vec Ideal S128x128 .f32) (n : Fin 10000) (d : Fin 128) :
    k0_pay2 a b (ix2 n d) = ∑ e : Fin 128, a (ix2 n e) * b (ix2 e d) := pay1_apply a b n d

/-- The cleared running sum at an index. -/
theorem pay3_apply (d : Fin 128) : k0_pay3 (F := Ideal) (ix2 (0 : Fin 1) d) = 0 := by
  unfold k0_pay3
  simp only [shapeCast_self]
  exact Ideal.ofBits_zero_f32

/-- The block of hidden features at an index. -/
theorem pay4_apply (a : Vec Ideal S400x10000 .f32) (x : Vec Ideal S10000x256 .f32) (b : Vec Ideal S1x256 .f32) (r : Fin 400)
    (q : Fin 256) :
    k0_pay4 a x b (ix2 r q) = max (∑ k : Fin 10000, a (ix2 r k) * x (ix2 k q) + b (ix2 (0 : Fin 1) q)) 0 := by
  unfold k0_pay4
  simp only [shapeCast_self, matmul]
  rw [maximumf_apply, addf_apply]
  refine congrArg₂ max (congrArg₂ (· + ·) ?_ ?_) Ideal.ofBits_zero_f32
  · refine (Ideal.matmul_plain_apply (M := 400) (K := 10000) (N := 256) none a x _ r q).trans ?_
    rw [constant_apply, Ideal.ofBits_zero_f32, zero_add]
  · exact broadcastTo_1b_ab_apply b _ r q

/-- The stored block of hidden features at an index. -/
theorem pay5_apply (a : Vec Ideal S400x10000 .f32) (x : Vec Ideal S10000x256 .f32) (b : Vec Ideal S1x256 .f32) (r : Fin 400)
    (q : Fin 256) :
    k0_pay5 a x b (ix2 r q) = max (∑ k : Fin 10000, a (ix2 r k) * x (ix2 k q) + b (ix2 (0 : Fin 1) q)) 0 := by
  unfold k0_pay5
  simp only [shapeCast_self]
  exact pay4_apply a x b r q

/-- The running sum after a block: its column sums over the block's 400 rows are added. -/
theorem pay6_apply (a : Vec Ideal S400x10000 .f32) (x : Vec Ideal S10000x256 .f32) (b : Vec Ideal S1x256 .f32)
    (s : Vec Ideal S1x128 .f32) (d : Fin 128) :
    k0_pay6 a x b s (ix2 (0 : Fin 1) d)
      = s (ix2 (0 : Fin 1) d) + ∑ r : Fin 400, k0_pay4 a x b (ix2 (n0 := 400) (n1 := 256) r ⟨d.val, by have := d.isLt; omega⟩) := by
  unfold k0_pay6
  simp only [shapeCast_self]
  rw [addf_apply]
  refine congrArg (_ + ·) ?_
  refine (shapeCast_a_1a_apply _ _ _ _).trans ?_
  refine (Ideal.multiReduction_add_single _ _ reduces_S400x128_S128 (.inl rfl) rfl (ix1 d)).trans ?_
  refine Finset.sum_congr rfl fun r _ => ?_
  refine extractStridedSlice_apply _ (k0_pay4 a x b) _ _ _ fun i => ?_
  fin_cases i
  · exact (Nat.zero_add _).symm
  · exact (Nat.zero_add _).symm

/-- The summary contracted with the bilinear weights, at an index. -/
theorem pay7_apply (s : Vec Ideal S1x128 .f32) (w : Vec Ideal S128x128 .f32) (d : Fin 128) :
    k0_pay7 s w (ix2 (0 : Fin 1) d)
      = ∑ e : Fin 128, Ideal.logistic (Ideal.div (s (ix2 (0 : Fin 1) e)) (Ideal.ofBits .f32 0x461C4000#32)) * w (ix2 d e) := by
  unfold k0_pay7
  simp only [matmul]
  rw [truncf_apply]
  refine (Ideal.matmul_transposedRhs_apply (M := 1) (K := 128) (N := 128) none _ w _ (0 : Fin 1) d).trans ?_
  rw [constant_apply, Ideal.ofBits_zero_f32, zero_add]
  rfl

/-- A row of scores at an index. -/
theorem pay9_apply (s : Vec Ideal S1x128 .f32) (w : Vec Ideal S128x128 .f32) (h : Vec Ideal S10000x128 .bf16)
    (b : Vec Ideal S1x1 .f32) (z : Vec Ideal S1x10000 .f32) (n : Fin 10000) :
    k0_pay9 s w h b z (ix2 (0 : Fin 1) n)
      = (∑ d : Fin 128, k0_pay7 s w (ix2 (0 : Fin 1) d) * h (ix2 n d)) + b (ix2 (0 : Fin 1) (0 : Fin 1)) + z (ix2 (0 : Fin 1) n) := by
  unfold k0_pay9
  simp only [matmul]
  rw [addf_apply, addf_apply]
  refine congrArg₂ (· + ·) (congrArg₂ (· + ·) ?_ ?_) rfl
  · refine (Ideal.matmul_transposedRhs_apply (M := 1) (K := 128) (N := 10000) none _ h _ (0 : Fin 1) n).trans ?_
    rw [constant_apply, Ideal.ofBits_zero_f32, zero_add]
  · unfold k0_pay8 extractAt
    refine congrArg b (funext fun i => Fin.ext ?_)
    fin_cases i <;> rfl

/-- The other row of scores is the same formula. -/
theorem pay10_apply (s : Vec Ideal S1x128 .f32) (w : Vec Ideal S128x128 .f32) (h : Vec Ideal S10000x128 .bf16)
    (b : Vec Ideal S1x1 .f32) (z : Vec Ideal S1x10000 .f32) (n : Fin 10000) :
    k0_pay10 s w h b z (ix2 (0 : Fin 1) n)
      = (∑ d : Fin 128, k0_pay7 s w (ix2 (0 : Fin 1) d) * h (ix2 n d)) + b (ix2 (0 : Fin 1) (0 : Fin 1)) + z (ix2 (0 : Fin 1) n) :=
  pay9_apply s w h b z n

/-! ## The arguments by coordinates -/

variable (m : (ℓ : Loc nD τ sig) → Buf (Elt Ideal) ℓ)

/-- The first input. -/
def argX (c : Dev nD) (n : Fin 10000) (e : Fin 128) : EReal := m ((c : Thread nD τ).loc main_arg0) (ix3 (0 : Fin 1) n e)
/-- The second input. -/
def argY (c : Dev nD) (n : Fin 10000) (e : Fin 128) : EReal := m ((c : Thread nD τ).loc main_arg1) (ix3 (0 : Fin 1) n e)
/-- The adjacency. -/
def argA (c : Dev nD) (n k : Fin 10000) : EReal := m ((c : Thread nD τ).loc main_arg2) (ix3 (0 : Fin 1) n k)
/-- The weights. -/
def argW (c : Dev nD) (e d : Fin 128) : EReal := m ((c : Thread nD τ).loc main_arg5) (ix2 e d)
/-- The bias. -/
def argB (c : Dev nD) (d : Fin 128) : EReal := m ((c : Thread nD τ).loc main_arg6) (ix1 d)
/-- The bilinear weights. -/
def argV (c : Dev nD) (d e : Fin 128) : EReal := m ((c : Thread nD τ).loc main_arg7) (ix2 d e)

/-- The hidden features of the first input. -/
def hidX (c : Dev nD) : Fin 10000 → Fin 128 → EReal := hidden (argX m c) (argA m c) (argW m c) (argB m c)
/-- The hidden features of the second input. -/
def hidY (c : Dev nD) : Fin 10000 → Fin 128 → EReal := hidden (argY m c) (argA m c) (argW m c) (argB m c)

/-! ## The scratch buffers by coordinates -/

/-- The left half of the features. -/
theorem feat_left (c : Dev nD) (n : Fin 10000) (d : Fin 128) (h : d.val < 256) :
    feat m c (ix2 (n0 := 10000) (n1 := 256) n ⟨d.val, h⟩) = ∑ e, argX m c n e * argW m c e d := by
  unfold feat sideBySide
  refine (dif_pos d.isLt).trans ((pay1_apply _ _ n d).trans ?_)
  exact Finset.sum_congr rfl fun e _ => congrArg₂ (· * ·) (blk_seq1 m c _ n e) (blk_w m c _ e d)

/-- The right half of the features. -/
theorem feat_right (c : Dev nD) (n : Fin 10000) (d : Fin 128) (h : d.val + 128 < 256) :
    feat m c (ix2 (n0 := 10000) (n1 := 256) n ⟨d.val + 128, h⟩) = ∑ e, argY m c n e * argW m c e d := by
  unfold feat sideBySide
  refine (dif_neg (by show ¬ d.val + 128 < 128; omega)).trans ?_
  refine Eq.trans (congrArg (k0_pay2 (iblk m c 1 first) (iblk m c 3 first)) (?_ : _ = ix2 n d)) ((pay2_apply _ _ n d).trans ?_)
  · exact congrArg (ix2 n) (Fin.ext (Nat.add_sub_cancel d.val 128))
  exact Finset.sum_congr rfl fun e _ => congrArg₂ (· * ·) (blk_seq2 m c _ n e) (blk_w m c _ e d)

/-- A point's block of hidden features, left half. -/
theorem pay4_left (c : Dev nD) (t : Fin cfg0.N) (r : Fin 400) (d : Fin 128) (h : d.val < 256) (hr : 400 * t.val + r.val < 10000) :
    k0_pay4 (iblk m c 2 t) (feat m c) (iblk m c 4 t) (ix2 (n0 := 400) (n1 := 256) r ⟨d.val, h⟩)
      = hidX m c ⟨400 * t.val + r.val, hr⟩ d := by
  refine (pay4_apply _ _ _ _ _).trans (congrArg₂ max (congrArg₂ (· + ·) (Finset.sum_congr rfl fun k _ => ?_) ?_) rfl)
  · exact congrArg₂ (· * ·) (blk_adj m c t r k hr) (feat_left m c k d h)
  · exact blk_b m c t _ d (Nat.mod_eq_of_lt d.isLt)

/-- A point's block of hidden features, right half. -/
theorem pay4_right (c : Dev nD) (t : Fin cfg0.N) (r : Fin 400) (d : Fin 128) (h : d.val + 128 < 256) (hr : 400 * t.val + r.val < 10000) :
    k0_pay4 (iblk m c 2 t) (feat m c) (iblk m c 4 t) (ix2 (n0 := 400) (n1 := 256) r ⟨d.val + 128, h⟩)
      = hidY m c ⟨400 * t.val + r.val, hr⟩ d := by
  refine (pay4_apply _ _ _ _ _).trans (congrArg₂ max (congrArg₂ (· + ·) (Finset.sum_congr rfl fun k _ => ?_) ?_) rfl)
  · exact congrArg₂ (· * ·) (blk_adj m c t r k hr) (feat_right m c k d h)
  · exact blk_b m c t _ d (by show (d.val + 128) % 128 = d.val; have := d.isLt; omega)

/-- The stored hidden features, left half. -/
theorem hid_left (c : Dev nD) (n : Fin 10000) (d : Fin 128) : leftHalf (hid m c) (ix2 n d) = hidX m c n d := by
  have hn := n.isLt
  have hd := d.isLt
  have e : leftHalf (hid m c) (ix2 n d) = hid m c (ix2 (n0 := 10000) (n1 := 256) n ⟨d.val, by omega⟩) := by
    unfold leftHalf
    rw [View.ld_unit]
    refine congrArg (hid m c) (funext fun a => Fin.ext ?_)
    fin_cases a
    · exact Nat.zero_add _
    · exact Nat.zero_add _
  rw [e]
  unfold hid rows k0_pay5
  simp only [shapeCast_self]
  rw [truncf_apply]
  refine (pay4_left m c _ _ d (by omega) (by show 400 * (n.val / 400) + n.val % 400 < 10000; omega)).trans ?_
  exact congrArg (fun x => hidX m c x d) (Fin.ext (Nat.div_add_mod n.val 400))

/-- The stored hidden features, right half. -/
theorem hid_right (c : Dev nD) (n : Fin 10000) (d : Fin 128) : rightHalf (hid m c) (ix2 n d) = hidY m c n d := by
  have hn := n.isLt
  have hd := d.isLt
  have e : rightHalf (hid m c) (ix2 n d) = hid m c (ix2 (n0 := 10000) (n1 := 256) n ⟨d.val + 128, by omega⟩) := by
    unfold rightHalf
    rw [View.ld_unit]
    refine congrArg (hid m c) (funext fun a => Fin.ext ?_)
    fin_cases a
    · exact Nat.zero_add _
    · exact Nat.add_comm _ _
  rw [e]
  unfold hid rows k0_pay5
  simp only [shapeCast_self]
  rw [truncf_apply]
  refine (pay4_right m c _ _ d (by omega) (by show 400 * (n.val / 400) + n.val % 400 < 10000; omega)).trans ?_
  exact congrArg (fun x => hidY m c x d) (Fin.ext (Nat.div_add_mod n.val 400))

/-- The running sum after `n` points is the column sum of the first `400 n` rows. -/
theorem runSum_apply (c : Dev nD) (d : Fin 128) (n : ℕ) (hn : n ≤ 25) :
    runSum m c n (ix2 (0 : Fin 1) d) = ∑ i ∈ Finset.range (400 * n), padded (fun k => hidX m c k d) i := by
  induction n with
  | zero => rw [Nat.mul_zero, Finset.range_zero, Finset.sum_empty]; exact pay3_apply d
  | succ n ih =>
    have ht : n < cfg0.N := lt_of_lt_of_eq (by omega : n < 25) N_0.symm
    have hs := runSum_succ m c ⟨n, ht⟩
    rw [show runSum m c (n + 1) = _ from hs, pay6_apply, padded_step _ n (by omega)]
    refine congrArg₂ (· + ·) (ih (by omega)) (Finset.sum_congr rfl fun r _ => ?_)
    exact pay4_left m c ⟨n, ht⟩ r d _ _

/-- The running sum after every point is the column sum. -/
theorem runSum_total (c : Dev nD) (d : Fin 128) : runSum m c 25 (ix2 (0 : Fin 1) d) = ∑ n, hidX m c n d :=
  (runSum_apply m c d 25 le_rfl).trans (padded_total _)

/-- The summary contracted with the bilinear weights, from the arguments. -/
theorem pay7_value (c : Dev nD) (t : Fin cfg0.N) (d : Fin 128) :
    k0_pay7 (runSum m c 25) (iblk m c 7 t) (ix2 (0 : Fin 1) d) = ∑ e, summary (hidX m c) e * argV m c d e := by
  rw [pay7_apply]
  refine Finset.sum_congr rfl fun e _ => congrArg₂ (· * ·) ?_ (blk_wd m c t d e)
  rw [runSum_total]
  rfl

/-- The first row of scores at an index. -/
theorem score1_apply (c : Dev nD) (t : Fin cfg0.N) (n : Fin 10000) :
    score1 m c t (ix2 (0 : Fin 1) n) = (∑ d, (∑ e, summary (hidX m c) e * argV m c d e) * hidX m c n d)
      + m ((c : Thread nD τ).loc main_arg8) ix0 + m ((c : Thread nD τ).loc main_arg3) (ix2 (0 : Fin 1) n) := by
  unfold score1
  rw [pay9_apply]
  refine congrArg₂ (· + ·) (congrArg₂ (· + ·) (Finset.sum_congr rfl fun d _ => ?_) (blk_bd m c t)) (blk_s1 m c t n)
  exact congrArg₂ (· * ·) (pay7_value m c t d) (hid_left m c n d)

/-- The second row of scores at an index. -/
theorem score2_apply (c : Dev nD) (t : Fin cfg0.N) (n : Fin 10000) :
    score2 m c t (ix2 (0 : Fin 1) n) = (∑ d, (∑ e, summary (hidX m c) e * argV m c d e) * hidY m c n d)
      + m ((c : Thread nD τ).loc main_arg8) ix0 + m ((c : Thread nD τ).loc main_arg4) (ix2 (0 : Fin 1) n) := by
  unfold score2
  rw [pay10_apply]
  refine congrArg₂ (· + ·) (congrArg₂ (· + ·) (Finset.sum_congr rfl fun d _ => ?_) (blk_bd m c t)) (blk_s2 m c t n)
  exact congrArg₂ (· * ·) (pay7_value m c t d) (hid_right m c n d)

end Cert.Layer

end
-- ==== Proof.RefValue.lean ====
/- The reference's result, entry by entry, as formulas of the arguments. -/
module

public import proofs.«01_k».proof.Proof.Gen.ReferenceIdeal.Run
public import proofs.«01_k».proof.Proof.Maths
public import Idealize.ShloMosaic.Lib.ValueIdx
public import Idealize.ShloMosaic.Lib.ValueLayout
public import Idealize.ShloMosaic.Lib.MatmulPlain
public import Idealize.ShloMosaic.Lib.StackMember
public import Idealize.ShloMosaic.Lib.IdealHost
public import Idealize.ShloMosaic.Lib.Pipeline.Value

@[expose] public section

set_option maxRecDepth 16384

noncomputable section

namespace Cert.Plain

open Idealize.ShloMosaic Idealize.ShloMosaic.TcCoe
open Cert.ReferenceIdeal Cert.ReferenceIdeal.Gen
open Idealize.ShloMosaic.ValueIdx
open Cert.Maths
open scoped BigOperators

/-! ## The reference's products at an index -/

/-- The product of the inputs and the weights. -/
theorem dot_features (x : FVec Ideal S1x10000x128 .f32) (w : FVec Ideal S128x128 .f32) (n : Fin 10000) (d : Fin 128) :
    Host.dotGeneral dot_S1x10000x128_S128x128_S1x10000x128_2_0_01_1_n_n none x w (ix3 (0 : Fin 1) n d)
      = ∑ e : Fin 128, x (ix3 (0 : Fin 1) n e) * w (ix2 e d) := by
  show FloatOps.dotGeneral _ none _ x w (ix3 (0 : Fin 1) n d) = _
  rw [Ideal.dotGeneral_apply, ← Equiv.sum_comp (contrEquiv1 dot_S1x10000x128_S128x128_S1x10000x128_2_0_01_1_n_n 128 rfl rfl).symm]
  refine Finset.sum_congr rfl fun e _ => congrArg₂ (· * ·) (congrArg x (funext fun a => Fin.ext ?_)) (congrArg w (funext fun a => Fin.ext ?_))
  · match a with
    | ⟨0, _⟩ => rfl
    | ⟨1, _⟩ => rfl
    | ⟨2, _⟩ => exact contrEquiv1_symm_val dot_S1x10000x128_S128x128_S1x10000x128_2_0_01_1_n_n 128 rfl rfl e
  · match a with
    | ⟨0, _⟩ => exact contrEquiv1_symm_val dot_S1x10000x128_S128x128_S1x10000x128_2_0_01_1_n_n 128 rfl rfl e
    | ⟨1, _⟩ => rfl

/-- The product of the bilinear weights and the hidden features. -/
theorem dot_weights (w : FVec Ideal S128x128 .f32) (h : FVec Ideal S1x10000x128 .f32) (e : Fin 128) (n : Fin 10000) :
    Host.dotGeneral dot_S128x128_S1x10000x128_S128x1x10000_0_2_1_01_n_n none w h (ix3 e (0 : Fin 1) n)
      = ∑ d : Fin 128, w (ix2 d e) * h (ix3 (0 : Fin 1) n d) := by
  show FloatOps.dotGeneral _ none _ w h (ix3 e (0 : Fin 1) n) = _
  rw [Ideal.dotGeneral_apply, ← Equiv.sum_comp (contrEquiv1 dot_S128x128_S1x10000x128_S128x1x10000_0_2_1_01_n_n 128 rfl rfl).symm]
  refine Finset.sum_congr rfl fun d _ => congrArg₂ (· * ·) (congrArg w (funext fun a => Fin.ext ?_)) (congrArg h (funext fun a => Fin.ext ?_))
  · match a with
    | ⟨0, _⟩ => exact contrEquiv1_symm_val dot_S128x128_S1x10000x128_S128x1x10000_0_2_1_01_n_n 128 rfl rfl d
    | ⟨1, _⟩ => rfl
  · match a with
    | ⟨0, _⟩ => rfl
    | ⟨1, _⟩ => rfl
    | ⟨2, _⟩ => exact contrEquiv1_symm_val dot_S128x128_S1x10000x128_S128x1x10000_0_2_1_01_n_n 128 rfl rfl d

/-- The product of the summary, repeated for every node, and the contracted features, node by node. -/
theorem dot_summary (s : FVec Ideal S1x10000x128 .f32) (y : FVec Ideal S128x1x10000 .f32) (n : Fin 10000) :
    Host.dotGeneral dot_S1x10000x128_S128x1x10000_S1x10000_2_0_n_n_01_12 none s y (ix2 (0 : Fin 1) n)
      = ∑ e : Fin 128, s (ix3 (0 : Fin 1) n e) * y (ix3 e (0 : Fin 1) n) := by
  show FloatOps.dotGeneral _ none _ s y (ix2 (0 : Fin 1) n) = _
  rw [Ideal.dotGeneral_apply, ← Equiv.sum_comp (contrEquiv1 dot_S1x10000x128_S128x1x10000_S1x10000_2_0_n_n_01_12 128 rfl rfl).symm]
  refine Finset.sum_congr rfl fun e _ => congrArg₂ (· * ·) (congrArg s (funext fun a => Fin.ext ?_)) (congrArg y (funext fun a => Fin.ext ?_))
  · match a with
    | ⟨0, _⟩ => rfl
    | ⟨1, _⟩ => rfl
    | ⟨2, _⟩ => exact contrEquiv1_symm_val dot_S1x10000x128_S128x1x10000_S1x10000_2_0_n_n_01_12 128 rfl rfl e
  · match a with
    | ⟨0, _⟩ => exact contrEquiv1_symm_val dot_S1x10000x128_S128x1x10000_S1x10000_2_0_n_n_01_12 128 rfl rfl e
    | ⟨1, _⟩ => rfl
    | ⟨2, _⟩ => rfl

/-! ## The reference's stages -/

/-- The hidden features as the reference's operations compose them. -/
def hiddenTerm (x : FVec Ideal S1x10000x128 .f32) (a : FVec Ideal S1x10000x10000 .f32) (w : FVec Ideal S128x128 .f32)
    (b : FVec Ideal S128 .f32) : FVec Ideal S1x10000x128 .f32 :=
  maximumf (addf (broadcastInDim S1x10000x128 ![1, 2] bcast_S10000x128_S1x10000x128_1_2
      (Host.dotGeneral dot_S10000x10000_S10000x128_S10000x128_1_0_0_1_n_n none
        (shapeCast _ a shapeCasts_S1x10000x10000_S10000x10000)
        (shapeCast _ (Host.dotGeneral dot_S1x10000x128_S128x128_S1x10000x128_2_0_01_1_n_n none x w) shapeCasts_S1x10000x128_S10000x128)))
    (broadcastInDim S1x10000x128 ![0, 1, 2] bcast_S1x1x128_S1x10000x128_0_1_2 (broadcastInDim S1x1x128 ![2] bcast_S128_S1x1x128_2 b)))
  (broadcastInDim S1x10000x128 ![] bcast_S_S1x10000x128 (constant S_ .f32 0x00000000#32))

/-- The summary as the reference's operations compose it. -/
def summaryTerm (h : FVec Ideal S1x10000x128 .f32) : FVec Ideal S1x128 .f32 :=
  Host.divf (broadcastInDim S1x128 ![] bcast_S_S1x128 (constant S_ .f32 0x3F800000#32))
    (addf (broadcastInDim S1x128 ![] bcast_S_S1x128 (constant S_ .f32 0x3F800000#32))
      (Host.exp (Host.negf (Host.divf (Host.reduceAdd h (constant S_ .f32 0x00000000#32) reducesTo_S1x10000x128_S1x128_d1 h_S_)
        (broadcastInDim S1x128 ![] bcast_S_S1x128 (constant S_ .f32 0x461C4000#32))))))

/-- One row of scores as the reference's operations compose it. -/
def scoreTerm (s : FVec Ideal S1x128 .f32) (w : FVec Ideal S128x128 .f32) (h : FVec Ideal S1x10000x128 .f32)
    (b : FVec Ideal S_ .f32) (z : FVec Ideal S1x10000 .f32) : FVec Ideal S1x10000 .f32 :=
  addf (addf (Host.dotGeneral dot_S1x10000x128_S128x1x10000_S1x10000_2_0_n_n_01_12 none
      (broadcastInDim S1x10000x128 ![0, 1, 2] bcast_S1x1x128_S1x10000x128_0_1_2 (broadcastInDim S1x1x128 ![0, 2] bcast_S1x128_S1x1x128_0_2 s))
      (Host.dotGeneral dot_S128x128_S1x10000x128_S128x1x10000_0_2_1_01_n_n none w h))
    (broadcastInDim S1x10000 ![] bcast_S_S1x10000 b)) z

/-- The hidden features at an index. -/
theorem hiddenTerm_apply (x : FVec Ideal S1x10000x128 .f32) (a : FVec Ideal S1x10000x10000 .f32) (w : FVec Ideal S128x128 .f32)
    (b : FVec Ideal S128 .f32) (n : Fin 10000) (d : Fin 128) :
    hiddenTerm x a w b (ix3 (0 : Fin 1) n d) = hidden (fun n e => x (ix3 (0 : Fin 1) n e)) (fun n k => a (ix3 (0 : Fin 1) n k))
      (fun e d => w (ix2 e d)) (fun d => b (ix1 d)) n d := by
  unfold hiddenTerm Maths.hidden
  rw [maximumf_apply, addf_apply]
  refine congrArg₂ max (congrArg₂ (· + ·) ?_ ?_) ?_
  · refine (broadcastInDim_apply _ _ _ _ (ix2 n d) fun i => ?_).trans ?_
    · fin_cases i <;> rfl
    refine (StackMember.dotGeneral_plain_apply none _ _ n d).trans (Finset.sum_congr rfl fun k _ => congrArg₂ (· * ·) ?_ ?_)
    · exact shapeCast_1ab_ab_apply _ _ _ _
    · exact (shapeCast_1ab_ab_apply _ _ _ _).trans (dot_features x w k d)
  · refine (broadcastInDim_apply _ _ _ _ (ix3 (0 : Fin 1) (0 : Fin 1) d) fun i => ?_).trans ?_
    · fin_cases i <;> rfl
    refine (broadcastInDim_apply _ _ _ _ (ix1 d) fun i => ?_)
    fin_cases i; rfl
  · refine (broadcastInDim_scalar_apply _ _ _).trans Ideal.ofBits_zero_f32

/-- The summary at an index. -/
theorem summaryTerm_apply (h : FVec Ideal S1x10000x128 .f32) (e : Fin 128) :
    summaryTerm h (ix2 (0 : Fin 1) e) = summary (fun n d => h (ix3 (0 : Fin 1) n d)) e := by
  have hr : Shape.Reduces S1x10000x128 [1] S1x128 := by decide
  have hsum : Host.reduceAdd h (constant S_ .f32 0x00000000#32) reducesTo_S1x10000x128_S1x128_d1 h_S_ (ix2 (0 : Fin 1) e)
      = ∑ n : Fin 10000, h (ix3 (0 : Fin 1) n e) := by
    rw [hostReduceAdd_apply, Ideal.hostReduceAdd_single _ hr, constant_apply, Ideal.ofBits_zero_f32, zero_add]
    refine Finset.sum_congr rfl fun n _ => congrArg h (funext fun i => Fin.ext ?_)
    fin_cases i <;> rfl
  have h1 : broadcastInDim S1x128 ![] bcast_S_S1x128 (constant (F := Ideal) S_ .f32 0x3F800000#32) (ix2 (0 : Fin 1) e) = 1 :=
    (broadcastInDim_scalar_apply _ _ _).trans Ideal.ofBits_one_f32
  unfold summaryTerm Maths.summary Ideal.logistic
  rw [hostDivf_apply, addf_apply, h1, ← hsum]
  rfl

/-- One row of scores at an index. -/
theorem scoreTerm_apply (s : FVec Ideal S1x128 .f32) (w : FVec Ideal S128x128 .f32) (h : FVec Ideal S1x10000x128 .f32)
    (b : FVec Ideal S_ .f32) (z : FVec Ideal S1x10000 .f32) (n : Fin 10000) :
    scoreTerm s w h b z (ix2 (0 : Fin 1) n)
      = score (fun e => s (ix2 (0 : Fin 1) e)) (fun d e => w (ix2 d e)) (fun d => h (ix3 (0 : Fin 1) n d)) + b ix0 + z (ix2 (0 : Fin 1) n) := by
  unfold scoreTerm Maths.score
  rw [addf_apply, addf_apply]
  refine congrArg₂ (· + ·) (congrArg₂ (· + ·) ?_ ?_) rfl
  · refine (dot_summary _ _ n).trans (Finset.sum_congr rfl fun e _ => congrArg₂ (· * ·) ?_ (dot_weights w h e n))
    refine (broadcastInDim_apply _ _ _ _ (ix3 (0 : Fin 1) (0 : Fin 1) e) fun i => ?_).trans ?_
    · fin_cases i <;> rfl
    refine (broadcastInDim_apply _ _ _ _ (ix2 (0 : Fin 1) e) fun i => ?_)
    fin_cases i <;> rfl
  · exact broadcastInDim_scalar_apply _ _ _

/-- The reference's result is the two rows of scores end to end. -/
theorem result_eq (m : (ℓ : Loc nD τ sig) → Buf (Elt Ideal) ℓ) (c : Dev nD) :
    Cert.ReferenceIdeal.Value.res_out0 m c = concatenate S1x20000 1
      [⟨S1x10000, scoreTerm (summaryTerm (hiddenTerm (m ((c : Thread nD τ).loc main_arg0)) (m ((c : Thread nD τ).loc main_arg2)) (m ((c : Thread nD τ).loc main_arg5)) (m ((c : Thread nD τ).loc main_arg6))))
          (m ((c : Thread nD τ).loc main_arg7)) (hiddenTerm (m ((c : Thread nD τ).loc main_arg0)) (m ((c : Thread nD τ).loc main_arg2)) (m ((c : Thread nD τ).loc main_arg5)) (m ((c : Thread nD τ).loc main_arg6)))
          (m ((c : Thread nD τ).loc main_arg8)) (m ((c : Thread nD τ).loc main_arg3))⟩,
       ⟨S1x10000, scoreTerm (summaryTerm (hiddenTerm (m ((c : Thread nD τ).loc main_arg0)) (m ((c : Thread nD τ).loc main_arg2)) (m ((c : Thread nD τ).loc main_arg5)) (m ((c : Thread nD τ).loc main_arg6))))
          (m ((c : Thread nD τ).loc main_arg7)) (hiddenTerm (m ((c : Thread nD τ).loc main_arg1)) (m ((c : Thread nD τ).loc main_arg2)) (m ((c : Thread nD τ).loc main_arg5)) (m ((c : Thread nD τ).loc main_arg6)))
          (m ((c : Thread nD τ).loc main_arg8)) (m ((c : Thread nD τ).loc main_arg4))⟩]
      concatenates_S1x10000_S1x10000_S1x20000_d1 := rfl

end Cert.Plain

end
-- ==== Proof.Finite.lean ====
/- What the precondition says: every entry of the inputs, the adjacency, the weights and the bias is a real number. -/
module

public import proofs.«01_k».proof.Pre_finite_inputs
public import proofs.«01_k».proof.Proof.Maths
public import Idealize.ShloMosaic.Lib.ReduceAll
public import Idealize.ShloMosaic.Lib.IdealHost
public import Idealize.ShloMosaic.Lib.ValueIdx

@[expose] public section

set_option maxRecDepth 16384

noncomputable section

namespace Cert.Pre_finite_inputs

open Idealize.ShloMosaic
open Idealize.ShloMosaic.ValueIdx
open Cert.Maths

/-- The shape facts the precondition's operations take. -/
theorem facts : Facts where
  bcast_S_S1x10000x128 := by decide
  reducesTo_S1x10000x128_S_d0_1_2 := by decide
  h_S_ := by decide
  bcast_S_S1x10000x10000 := by decide
  reducesTo_S1x10000x10000_S_d0_1_2 := by decide
  bcast_S_S128x128 := by decide
  reducesTo_S128x128_S_d0_1 := by decide
  bcast_S_S128 := by decide
  reducesTo_S128_S_d0 := by decide

/-- The scalar shape has one index. -/
theorem one_index : Subsingleton S_.Idx := ⟨fun _ _ => funext fun i => i.elim0⟩

/-- The pattern the test compares with reads as the top element. -/
theorem bound_top : Ideal.ofBits .f32 0x7F800000#32 = ⊤ := by simp [Ideal.ofBits, Ideal.ieee]

/-- A passed test of "every absolute value is below infinity" says that every entry is real. -/
theorem all_real {s : Shape} {axes : List (Fin s.rank)} (a : FVec Ideal s .f32) (hb : S_.BroadcastsInDim s (![] : Fin 0 → Fin s.rank))
    (hr : s.ReducesTo axes S_) (hu : 0 < S_.numel)
    (h : Host.reduce IntOp.andi (cmpf .olt (Host.absf a) (broadcastInDim s ![] hb (constant (F := Ideal) S_ .f32 0x7F800000#32)))
      (constantI S_ 1 1#1) hr hu ix0 = 1#1) (i : s.Idx) : IsReal (a i) := by
  haveI := one_index
  have h1 := Host.reduce_andi_all _ _ hr hu ix0 h i
  rw [cmpf_apply, broadcastInDim_scalar_apply, constant_apply, bound_top] at h1
  have h2 : BitVec.ofBool (decide (max (a i) (-(a i)) < (⊤ : EReal))) = 1#1 := h1
  refine isReal_of_abs_lt ?_
  by_contra hn
  rw [decide_eq_false hn] at h2
  exact absurd h2 (by decide)

/-- Two bits whose conjunction is set are both set. -/
theorem both {a b : BitVec 1} (h : a &&& b = 1#1) : a = 1#1 ∧ b = 1#1 := by
  revert a b; decide

/-- The precondition gives the real entries of the five arguments it tests. -/
theorem reals [Facts] (x y : FVec Ideal S1x10000x128 .f32) (a : FVec Ideal S1x10000x10000 .f32) (z₁ z₂ : FVec Ideal S1x10000 .f32)
    (w : FVec Ideal S128x128 .f32) (b : FVec Ideal S128 .f32) (v : FVec Ideal S128x128 .f32) (d : FVec Ideal S_ .f32)
    (h : fn (F := Ideal) x y a z₁ z₂ w b v d = fun _ => 1#1) :
    (∀ i, IsReal (x i)) ∧ (∀ i, IsReal (y i)) ∧ (∀ i, IsReal (a i)) ∧ (∀ i, IsReal (w i)) ∧ ∀ i, IsReal (b i) := by
  have h0 := congrFun h ix0
  dsimp only [fn, fn_part1] at h0
  obtain ⟨h1, hb⟩ := both h0
  obtain ⟨h2, hw⟩ := both h1
  obtain ⟨h3, ha⟩ := both h2
  obtain ⟨hx, hy⟩ := both h3
  exact ⟨all_real x _ _ _ hx, all_real y _ _ _ hy, all_real a _ _ _ ha, all_real w _ _ _ hw, all_real b _ _ _ hb⟩

end Cert.Pre_finite_inputs

end
-- ==== Proof.Final.lean ====
/- What the layer kernel's output holds at the end: on finite inputs, the reference's term of the kernel's own arguments. -/
module

public import proofs.«01_k».proof.Defs
public import proofs.«01_k».proof.Proof.KernelValue
public import proofs.«01_k».proof.Proof.RefValue
public import proofs.«01_k».proof.Proof.Finite

@[expose] public section

set_option maxRecDepth 16384

noncomputable section

namespace Cert.Layer

open Idealize.ShloMosaic Idealize.ShloMosaic.TcCoe Idealize.ShloMosaic.Tactic
open Idealize.SL Idealize.SL.Sem
open Idealize.ShloMosaic.Pipeline (Dat Cfg Window BodyObligation cellOf)
open Cert.KernelIdeal Cert.KernelIdeal.Gen
open Idealize.ShloMosaic.ValueIdx
open Cert.Maths
open scoped BigOperators

variable (m : (ℓ : Loc nD τ sig) → Buf (Elt Ideal) ℓ)

/-! ## The rows of scores as the reference writes them -/

/-- The hidden features of the first input, as the reference composes them. -/
def plainX (c : Dev nD) : FVec Ideal S1x10000x128 .f32 :=
  Plain.hiddenTerm (m ((c : Thread nD τ).loc main_arg0)) (m ((c : Thread nD τ).loc main_arg2)) (m ((c : Thread nD τ).loc main_arg5))
    (m ((c : Thread nD τ).loc main_arg6))
/-- The hidden features of the second input, as the reference composes them. -/
def plainY (c : Dev nD) : FVec Ideal S1x10000x128 .f32 :=
  Plain.hiddenTerm (m ((c : Thread nD τ).loc main_arg1)) (m ((c : Thread nD τ).loc main_arg2)) (m ((c : Thread nD τ).loc main_arg5))
    (m ((c : Thread nD τ).loc main_arg6))
/-- The first row of scores, as the reference composes it. -/
def row1 (c : Dev nD) : FVec Ideal S1x10000 .f32 :=
  Plain.scoreTerm (Plain.summaryTerm (plainX m c)) (m ((c : Thread nD τ).loc main_arg7)) (plainX m c)
    (m ((c : Thread nD τ).loc main_arg8)) (m ((c : Thread nD τ).loc main_arg3))
/-- The second row of scores, as the reference composes it. -/
def row2 (c : Dev nD) : FVec Ideal S1x10000 .f32 :=
  Plain.scoreTerm (Plain.summaryTerm (plainX m c)) (m ((c : Thread nD τ).loc main_arg7)) (plainY m c)
    (m ((c : Thread nD τ).loc main_arg8)) (m ((c : Thread nD τ).loc main_arg4))

/-- The inputs, the adjacency, the weights and the bias are real numbers. -/
structure Reals (c : Dev nD) : Prop where
  x : ∀ n e, IsReal (argX m c n e)
  y : ∀ n e, IsReal (argY m c n e)
  a : ∀ n k, IsReal (argA m c n k)
  w : ∀ e d, IsReal (argW m c e d)
  b : ∀ d, IsReal (argB m c d)

/-- The claims' precondition gives them. -/
theorem reals_of_pre [hp : Cert.Pre_finite_inputs.Facts] (h : Cert.Pre_KernelIdeal_finite_inputs m) (c : Dev nD) : Reals m c :=
  have r := Cert.Pre_finite_inputs.reals _ _ _ _ _ _ _ _ _ (h c)
  ⟨fun _ _ => r.1 _, fun _ _ => r.2.1 _, fun _ _ => r.2.2.1 _, fun _ _ => r.2.2.2.1 _, fun _ => r.2.2.2.2 _⟩

/-- The summary as the reference composes it. -/
theorem plain_summary (c : Dev nD) (e : Fin 128) : Plain.summaryTerm (plainX m c) (ix2 (0 : Fin 1) e) = summary (hidX m c) e :=
  (Plain.summaryTerm_apply _ e).trans
    (congrArg (fun h => summary h e) (funext fun n => funext fun d => Plain.hiddenTerm_apply _ _ _ _ n d))

/-- The first row at a node. -/
theorem row1_apply (c : Dev nD) (n : Fin 10000) : row1 m c (ix2 (0 : Fin 1) n)
    = score (summary (hidX m c)) (argV m c) (hidX m c n) + m ((c : Thread nD τ).loc main_arg8) ix0
      + m ((c : Thread nD τ).loc main_arg3) (ix2 (0 : Fin 1) n) := by
  refine (Plain.scoreTerm_apply _ _ _ _ _ n).trans (congrArg₂ (· + ·) (congrArg₂ (· + ·) ?_ rfl) rfl)
  rw [show (fun e => Plain.summaryTerm (plainX m c) (ix2 (0 : Fin 1) e)) = summary (hidX m c) from funext (plain_summary m c)]
  exact congrArg (score _ _) (funext fun d => Plain.hiddenTerm_apply _ _ _ _ n d)

/-- The second row at a node. -/
theorem row2_apply (c : Dev nD) (n : Fin 10000) : row2 m c (ix2 (0 : Fin 1) n)
    = score (summary (hidX m c)) (argV m c) (hidY m c n) + m ((c : Thread nD τ).loc main_arg8) ix0
      + m ((c : Thread nD τ).loc main_arg4) (ix2 (0 : Fin 1) n) := by
  refine (Plain.scoreTerm_apply _ _ _ _ _ n).trans (congrArg₂ (· + ·) (congrArg₂ (· + ·) ?_ rfl) rfl)
  rw [show (fun e => Plain.summaryTerm (plainX m c) (ix2 (0 : Fin 1) e)) = summary (hidX m c) from funext (plain_summary m c)]
  exact congrArg (score _ _) (funext fun d => Plain.hiddenTerm_apply _ _ _ _ n d)

/-! ## The kernel's rows are those rows -/

variable {m}

/-- On real inputs the first row the kernel writes is the reference's. -/
theorem score1_row {c : Dev nD} (h : Reals m c) (t : Fin cfg0.N) (n : Fin 10000) :
    score1 m c t (ix2 (0 : Fin 1) n) = row1 m c (ix2 (0 : Fin 1) n) := by
  rw [score1_apply, row1_apply, score_eq (summary (hidX m c)) (argV m c) (hidX m c n) (fun e => logistic_real _)
    fun d => ⟨hidden_nonneg _ _ _ _ n d, (hidden_isReal h.x h.a h.w h.b n d).ne_top⟩]

/-- On real inputs the second row the kernel writes is the reference's. -/
theorem score2_row {c : Dev nD} (h : Reals m c) (t : Fin cfg0.N) (n : Fin 10000) :
    score2 m c t (ix2 (0 : Fin 1) n) = row2 m c (ix2 (0 : Fin 1) n) := by
  rw [score2_apply, row2_apply, score_eq (summary (hidX m c)) (argV m c) (hidY m c n) (fun e => logistic_real _)
    fun d => ⟨hidden_nonneg _ _ _ _ n d, (hidden_isReal h.y h.a h.w h.b n d).ne_top⟩]

/-- Window 9's block is its whole array. -/
theorem emb_9 (t : Fin cfg0.N) (r : Fin 1) (k : Fin 10000) :
    ((cfg0.win 9).rect t).emb (ix2 r k) = ix2 (n0 := 1) (n1 := 10000) r k := by
  have h : ∀ t : Fin cfg0.N, (cfg0.win 9).index t = ![0, 0] := by decide +kernel
  refine funext fun a => Fin.ext ?_
  rw [(cfg0.win 9).rect_emb_val_of_index_zero t a (by rw [h t]; fin_cases a <;> rfl)]

/-- Window 10's block is its whole array. -/
theorem emb_10 (t : Fin cfg0.N) (r : Fin 1) (k : Fin 10000) :
    ((cfg0.win 10).rect t).emb (ix2 r k) = ix2 (n0 := 1) (n1 := 10000) r k := by
  have h : ∀ t : Fin cfg0.N, (cfg0.win 10).index t = ![0, 0] := by decide +kernel
  refine funext fun a => Fin.ext ?_
  rw [(cfg0.win 10).rect_emb_val_of_index_zero t a (by rw [h t]; fin_cases a <;> rfl)]

/-- An index of a single row is its column's. -/
theorem row_index (y : S1x10000.Idx) : ∃ n : Fin 10000, y = ix2 (0 : Fin 1) n :=
  ⟨y 1, funext fun a => by
    fin_cases a
    · exact Subsingleton.elim (α := Fin 1) _ _
    · rfl⟩

/-- The first output array ends at the reference's first row. -/
theorem final_9 {c : Dev nD} (h : Reals m c) : (dats m 0 c).arrAt 9 cfg0.N = row1 m c := by
  refine (dats m 0 c).arrAt_eq_of_covers 9 _ (by decide +kernel) fun t hf y => ?_
  rw [after_9]
  obtain ⟨n, rfl⟩ := row_index y
  exact (score1_row h t n).trans (congrArg (row1 m c) (emb_9 t 0 n).symm)

/-- The second output array ends at the reference's second row. -/
theorem final_10 {c : Dev nD} (h : Reals m c) : (dats m 0 c).arrAt 10 cfg0.N = row2 m c := by
  refine (dats m 0 c).arrAt_eq_of_covers 10 _ (by decide +kernel) fun t hf y => ?_
  rw [after_10]
  obtain ⟨n, rfl⟩ := row_index y
  exact (score2_row h t n).trans (congrArg (row2 m c) (emb_10 t 0 n).symm)

/-! ## The whole run -/

/-- After the last host line the result is the two output arrays end to end. -/
theorem tail_result (c : Dev nD) : Pipeline.afterTail₀ cfgs (dats m) 0 (V0 m) [hostOps1] c main_v7
    = concatenate S1x20000 1 [⟨S1x10000, (dats m 0 c).arrAt 9 cfg0.N⟩, ⟨S1x10000, (dats m 0 c).arrAt 10 cfg0.N⟩]
        concatenates_S1x10000_S1x10000_S1x20000_d1 := by
  have h9 := Pipeline.withArrays_arr (τ := τ) spec0 (by decide) c (V0 m c) (fun w => (dats m 0 c).arrAt w cfg0.N) 9
  have h10 := Pipeline.withArrays_arr (τ := τ) spec0 (by decide) c (V0 m c) (fun w => (dats m 0 c).arrAt w cfg0.N) 10
  unfold Pipeline.afterTail₀
  simp only [hostOps1, List.flatten_cons, List.flatten_nil, List.append_nil]
  after_results
  exact congrArg₂ (fun a b => concatenate S1x20000 1 [⟨S1x10000, a⟩, ⟨S1x10000, b⟩] concatenates_S1x10000_S1x10000_S1x20000_d1) h9 h10

variable (ρ : Dev nD → PrngReg)

/-- On real inputs the program ends with the reference's two rows end to end, its arguments unchanged. -/
theorem run_value (h : ∀ c, Reals m c) : θ_run defs (onTc (τ := τ) (main (F := Ideal))) ⟨m, fun _ => 0, ρ⟩ (fun r => ∀ c : Dev nD,
      r.2.mem ((c.tc : Thread nD τ).loc main_v7) = concatenate S1x20000 1 [⟨S1x10000, row1 m c⟩, ⟨S1x10000, row2 m c⟩]
        concatenates_S1x10000_S1x10000_S1x20000_d1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono
    (fun r hr c => ⟨((hr.1 c).2 main_v7 (by decide)).trans ((tail_result c).trans (by rw [final_9 (h c), final_10 (h c)])), hr.2.1 c⟩)
    (θ_run_and (run_main m ρ) (frame m ρ))

end Cert.Layer

end
-- ==== Proof.Printed.lean ====
/- The frame of the kernel as printed: its program is the idealized one's, read over the machine's words. -/
module

public import proofs.«01_k».proof.Defs
public import proofs.«01_k».proof.Proof.Gen.Kernel
public import proofs.«01_k».proof.Proof.Data

@[expose] public section

set_option maxRecDepth 16384

noncomputable section

namespace Cert.Printed

open Idealize.ShloMosaic Idealize.SL.Sem

attribute [local instance] Cert.Kernel.Gen.facts Cert.KernelIdeal.Gen.facts

/-- The two programs have the same body, label by label. -/
theorem bodies_eq : Cert.Kernel.defs₀ (F := Bits) = Cert.KernelIdeal.defs₀ (F := Bits) := by
  unfold Cert.Kernel.defs₀ Cert.KernelIdeal.defs₀
  refine congrArg Defs.onTc (funext fun l => funext fun a => ?_)
  obtain ⟨l, hl⟩ := l
  cases l with
  | zero => obtain ⟨t, s⟩ := a; rfl
  | succ n => exact absurd hl (Nat.not_lt.2 (Nat.le_add_left _ _))

/-- The two programs have the same body table, pipelines included. -/
theorem tables_eq : Cert.Kernel.defs (F := Bits) = Cert.KernelIdeal.defs (F := Bits) := by
  unfold Cert.Kernel.defs Cert.KernelIdeal.defs
  rw [bodies_eq]
  exact rfl

/-- The printed kernel leaves its arguments unchanged and every counter at zero. -/
theorem frame : Cert.quiescent_Kernel (hKernel := Cert.Kernel.Gen.facts) := fun m ρ _ => by
  rw [tables_eq]
  exact Cert.Layer.frame (F := Bits) m ρ

end Cert.Printed

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Final
public import proofs.«01_k».proof.Proof.Printed
public import Idealize.ShloMosaic.Adequacy
public import Idealize.ShloMosaic.Init

@[expose] public section

noncomputable section

namespace Cert.Proof

open Idealize.ShloMosaic Idealize.ShloMosaic.TcCoe Idealize.ShloMosaic.Tactic Idealize.SL.Sem

/-- The reference leaves its arguments unchanged and every counter at zero. -/
theorem frame_reference : Cert.quiescent_ReferenceIdeal := fun m ρ _ =>
  (θ_run (Cert.ReferenceIdeal.defs (F := Ideal)) _ _).mono
    (fun r h => ⟨fun c => (h c).2, Idealize.ShloMosaic.sem_eq_zero_of_no_sems (by decide) r.2⟩)
    (Cert.ReferenceIdeal.Value.run (F := Ideal) m ρ)

/-- On finite inputs the layer and the reference end with the same result. -/
theorem algebraic : Cert.algebraic_KernelIdeal_ReferenceIdeal_pre_finite_inputs
    (hPre_finite_inputs := Cert.Pre_finite_inputs.facts) := by
  intro m g m' g' hpre hagree
  refine ⟨fun c => concatenate Cert.KernelIdeal.S1x20000 1
      [⟨Cert.KernelIdeal.S1x10000, Cert.Layer.row1 m c⟩, ⟨Cert.KernelIdeal.S1x10000, Cert.Layer.row2 m c⟩]
      Cert.KernelIdeal.Gen.concatenates_S1x10000_S1x10000_S1x20000_d1, ?_, ?_⟩
  · exact Cert.Layer.run_value g fun c => Cert.Layer.reals_of_pre m (hp := Cert.Pre_finite_inputs.facts) hpre c
  · refine (θ_run (Cert.ReferenceIdeal.defs (F := Ideal)) _ _).mono (fun r h c => ⟨(h c).1.trans ?_, (h c).2⟩)
      (Cert.ReferenceIdeal.Value.run (F := Ideal) m' g')
    obtain ⟨h0, h1, h2, h3, h4, h5, h6, h7, h8⟩ := hagree c
    refine (Cert.Plain.result_eq m' c).trans ?_
    rw [h0, h1, h2, h3, h4, h5, h6, h7, h8]
    rfl

/-- Everything the certificate claims. -/
theorem claim : Cert.Claim :=
  ⟨Cert.Kernel.Gen.facts, Cert.KernelIdeal.Gen.facts, Cert.ReferenceIdeal.Gen.facts, Cert.Pre_finite_inputs.facts,
    Cert.Printed.frame, fun m ρ _ => Cert.Layer.frame m ρ, fun m ρ _ => Cert.Layer.frame m ρ,
    frame_reference, fun m ρ _ => frame_reference m ρ trivial, trivial, algebraic⟩

end Cert.Proof

end
